-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)) (v6 : (c : Dev Cert.KernelIdeal.nD) → Buf (Elt Ideal) ((c.tc : Thread Cert.KernelIdeal.nD Cert.KernelIdeal.τ).loc Cert.KernelIdeal.main_v7_6)) (v7 : (c : Dev Cert.KernelIdeal.nD) → Buf (Elt Ideal) ((c.tc : Thread Cert.KernelIdeal.nD Cert.KernelIdeal.τ).loc Cert.KernelIdeal.main_v7_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_v7_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_v3_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x5x12288x128 : Shape := ⟨4, ![2, 5, 12288, 128]⟩
abbrev S2x12240x2560 : Shape := ⟨3, ![2, 12240, 2560]⟩
abbrev S2x6x2560 : Shape := ⟨3, ![2, 6, 2560]⟩
abbrev S640x2560 : Shape := ⟨2, ![640, 2560]⟩
abbrev S2560 : Shape := ⟨1, ![2560]⟩
abbrev S2560x1728 : Shape := ⟨2, ![2560, 1728]⟩
abbrev S1728 : Shape := ⟨1, ![1728]⟩
abbrev S1728x2560 : Shape := ⟨2, ![1728, 2560]⟩
abbrev S6x2x2560 : Shape := ⟨3, ![6, 2, 2560]⟩
abbrev S1x2560 : Shape := ⟨2, ![1, 2560]⟩
abbrev S1x1728 : Shape := ⟨2, ![1, 1728]⟩
abbrev S2x12240x640 : Shape := ⟨3, ![2, 12240, 640]⟩
abbrev S2x12240 : Shape := ⟨2, ![2, 12240]⟩
abbrev S2x1728x12240 : Shape := ⟨3, ![2, 1728, 12240]⟩
abbrev S2x5x256x128 : Shape := ⟨4, ![2, 5, 256, 128]⟩
abbrev S2x256x2560 : Shape := ⟨3, ![2, 256, 2560]⟩
abbrev S2x256x640 : Shape := ⟨3, ![2, 256, 640]⟩
abbrev S2x256 : Shape := ⟨2, ![2, 256]⟩
abbrev S2x1728x256 : Shape := ⟨3, ![2, 1728, 256]⟩
abbrev S256x2560 : Shape := ⟨2, ![256, 2560]⟩
abbrev S256x1728 : Shape := ⟨2, ![256, 1728]⟩
abbrev S1x1x32x128 : Shape := ⟨4, ![1, 1, 32, 128]⟩
abbrev S32x128 : Shape := ⟨2, ![32, 128]⟩
abbrev S32x640 : Shape := ⟨2, ![32, 640]⟩
abbrev S32 : Shape := ⟨1, ![32]⟩
abbrev S32x1 : Shape := ⟨2, ![32, 1]⟩
abbrev S1x32x640 : Shape := ⟨3, ![1, 32, 640]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S1x256x640 : Shape := ⟨3, ![1, 256, 640]⟩
abbrev S256x640 : Shape := ⟨2, ![256, 640]⟩
abbrev S640x256 : Shape := ⟨2, ![640, 256]⟩
abbrev S256x256 : Shape := ⟨2, ![256, 256]⟩
abbrev S1x256x256 : Shape := ⟨3, ![1, 256, 256]⟩
abbrev S1x1x256 : Shape := ⟨3, ![1, 1, 256]⟩
abbrev S1x1x2560 : Shape := ⟨3, ![1, 1, 2560]⟩
abbrev S32x2560 : Shape := ⟨2, ![32, 2560]⟩
abbrev S1x256x2560 : Shape := ⟨3, ![1, 256, 2560]⟩
abbrev S1x32x2560 : Shape := ⟨3, ![1, 32, 2560]⟩
abbrev S192x2560 : Shape := ⟨2, ![192, 2560]⟩
abbrev S256x192 : Shape := ⟨2, ![256, 192]⟩
abbrev S1x192 : Shape := ⟨2, ![1, 192]⟩
abbrev S32x1728 : Shape := ⟨2, ![32, 1728]⟩
abbrev S1728x256 : Shape := ⟨2, ![1728, 256]⟩
abbrev S1x1728x256 : Shape := ⟨3, ![1, 1728, 256]⟩

abbrev nBuf : Space → Nat
  | .hbm => 26
  | .vmem => 32
  | .smem => 0
  | _ => 0

abbrev bufTy : (tb : Table) → Fin (tcTables nBuf tb) → BufTy
  | .hbm, ⟨0, _⟩ => ⟨S2x5x12288x128, .f32⟩
  | .hbm, ⟨1, _⟩ => ⟨S2x12240x2560, .bf16⟩
  | .hbm, ⟨2, _⟩ => ⟨S2x6x2560, .f32⟩
  | .hbm, ⟨3, _⟩ => ⟨S640x2560, .fp8e4m3⟩
  | .hbm, ⟨4, _⟩ => ⟨S2560, .f32⟩
  | .hbm, ⟨5, _⟩ => ⟨S2560x1728, .fp8e4m3⟩
  | .hbm, ⟨6, _⟩ => ⟨S1728, .f32⟩
  | .hbm, ⟨7, _⟩ => ⟨S2560x1728, .fp8e4m3⟩
  | .hbm, ⟨8, _⟩ => ⟨S1728, .f32⟩
  | .hbm, ⟨9, _⟩ => ⟨S1728x2560, .fp8e4m3⟩
  | .hbm, ⟨10, _⟩ => ⟨S2560, .f32⟩
  | .hbm, ⟨11, _⟩ => ⟨S6x2x2560, .f32⟩
  | .hbm, ⟨12, _⟩ => ⟨S1x2560, .f32⟩
  | .hbm, ⟨13, _⟩ => ⟨S1728x2560, .fp8e4m3⟩
  | .hbm, ⟨14, _⟩ => ⟨S1x1728, .f32⟩
  | .hbm, ⟨15, _⟩ => ⟨S1728x2560, .fp8e4m3⟩
  | .hbm, ⟨16, _⟩ => ⟨S1x1728, .f32⟩
  | .hbm, ⟨17, _⟩ => ⟨S1x2560, .f32⟩
  | .hbm, ⟨18, _⟩ => ⟨S2x12240x2560, .bf16⟩
  | .hbm, ⟨19, _⟩ => ⟨S2x12240x640, .fp8e4m3⟩
  | .hbm, ⟨20, _⟩ => ⟨S2x12240, .f32⟩
  | .hbm, ⟨21, _⟩ => ⟨S2x12240x2560, .fp8e4m3⟩
  | .hbm, ⟨22, _⟩ => ⟨S2x12240, .f32⟩
  | .hbm, ⟨23, _⟩ => ⟨S2x1728x12240, .fp8e4m3⟩
  | .hbm, ⟨24, _⟩ => ⟨S2x12240, .f32⟩
  | .hbm, ⟨25, _⟩ => ⟨S2x12240x640, .bf16⟩
  | .local _ .vmem, ⟨0, _⟩ => ⟨S2x5x256x128, .f32⟩
  | .local _ .vmem, ⟨1, _⟩ => ⟨S2x5x256x128, .f32⟩
  | .local _ .vmem, ⟨2, _⟩ => ⟨S2x256x2560, .bf16⟩
  | .local _ .vmem, ⟨3, _⟩ => ⟨S2x256x2560, .bf16⟩
  | .local _ .vmem, ⟨4, _⟩ => ⟨S6x2x2560, .f32⟩
  | .local _ .vmem, ⟨5, _⟩ => ⟨S640x2560, .fp8e4m3⟩
  | .local _ .vmem, ⟨6, _⟩ => ⟨S1x2560, .f32⟩
  | .local _ .vmem, ⟨7, _⟩ => ⟨S1728x2560, .fp8e4m3⟩
  | .local _ .vmem, ⟨8, _⟩ => ⟨S1x1728, .f32⟩
  | .local _ .vmem, ⟨9, _⟩ => ⟨S1728x2560, .fp8e4m3⟩
  | .local _ .vmem, ⟨10, _⟩ => ⟨S1x1728, .f32⟩
  | .local _ .vmem, ⟨11, _⟩ => ⟨S1728x2560, .fp8e4m3⟩
  | .local _ .vmem, ⟨12, _⟩ => ⟨S1x2560, .f32⟩
  | .local _ .vmem, ⟨13, _⟩ => ⟨S2x256x2560, .bf16⟩
  | .local _ .vmem, ⟨14, _⟩ => ⟨S2x256x2560, .bf16⟩
  | .local _ .vmem, ⟨15, _⟩ => ⟨S2x256x640, .fp8e4m3⟩
  | .local _ .vmem, ⟨16, _⟩ => ⟨S2x256x640, .fp8e4m3⟩
  | .local _ .vmem, ⟨17, _⟩ => ⟨S2x256, .f32⟩
  | .local _ .vmem, ⟨18, _⟩ => ⟨S2x256, .f32⟩
  | .local _ .vmem, ⟨19, _⟩ => ⟨S2x256x2560, .fp8e4m3⟩
  | .local _ .vmem, ⟨20, _⟩ => ⟨S2x256x2560, .fp8e4m3⟩
  | .local _ .vmem, ⟨21, _⟩ => ⟨S2x256, .f32⟩
  | .local _ .vmem, ⟨22, _⟩ => ⟨S2x256, .f32⟩
  | .local _ .vmem, ⟨23, _⟩ => ⟨S2x1728x256, .fp8e4m3⟩
  | .local _ .vmem, ⟨24, _⟩ => ⟨S2x1728x256, .fp8e4m3⟩
  | .local _ .vmem, ⟨25, _⟩ => ⟨S2x256, .f32⟩
  | .local _ .vmem, ⟨26, _⟩ => ⟨S2x256, .f32⟩
  | .local _ .vmem, ⟨27, _⟩ => ⟨S2x256x640, .bf16⟩
  | .local _ .vmem, ⟨28, _⟩ => ⟨S2x256x640, .bf16⟩
  | .local _ .vmem, ⟨29, _⟩ => ⟨S256x2560, .f32⟩
  | .local _ .vmem, ⟨30, _⟩ => ⟨S256x1728, .f32⟩
  | .local _ .vmem, ⟨31, _⟩ => ⟨S256x1728, .fp8e4m3⟩
  | _, _ => ⟨S2x5x12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev main_v7_6 : Ref sig .tc := ⟨.hbm, 24, rfl⟩
abbrev main_v7_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![48], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x5x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x2x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1728x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1728 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1728x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1728 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1728x2560 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x256x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x256x640 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x256x2560 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x1728x256 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x256x640 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S2x5x12288x128 : Shape := ⟨4, ![2, 5, 12288, 128]⟩
abbrev S2x12240x2560 : Shape := ⟨3, ![2, 12240, 2560]⟩
abbrev S2x6x2560 : Shape := ⟨3, ![2, 6, 2560]⟩
abbrev S640x2560 : Shape := ⟨2, ![640, 2560]⟩
abbrev S2560 : Shape := ⟨1, ![2560]⟩
abbrev S2560x1728 : Shape := ⟨2, ![2560, 1728]⟩
abbrev S1728 : Shape := ⟨1, ![1728]⟩
abbrev S1728x2560 : Shape := ⟨2, ![1728, 2560]⟩
abbrev S2x12288x5x128 : Shape := ⟨4, ![2, 12288, 5, 128]⟩
abbrev S2x12288x640 : Shape := ⟨3, ![2, 12288, 640]⟩
abbrev S2x12240x640 : Shape := ⟨3, ![2, 12240, 640]⟩
abbrev S2x12240 : Shape := ⟨2, ![2, 12240]⟩
abbrev S2x1728x12240 : Shape := ⟨3, ![2, 1728, 12240]⟩
abbrev S2x12240x1 : Shape := ⟨3, ![2, 12240, 1]⟩
abbrev S2x1x2560 : Shape := ⟨3, ![2, 1, 2560]⟩
abbrev S1x1x2560 : Shape := ⟨3, ![1, 1, 2560]⟩
abbrev S2x12240x1728 : Shape := ⟨3, ![2, 12240, 1728]⟩
abbrev S1x1x1728 : Shape := ⟨3, ![1, 1, 1728]⟩

abbrev nBuf : Space → Nat
  | .hbm => 22
  | .vmem => 19
  | .smem => 0
  | _ => 0

abbrev bufTy : (tb : Table) → Fin (tcTables nBuf tb) → BufTy
  | .hbm, ⟨0, _⟩ => ⟨S2x5x12288x128, .f32⟩
  | .hbm, ⟨1, _⟩ => ⟨S2x12240x2560, .bf16⟩
  | .hbm, ⟨2, _⟩ => ⟨S2x6x2560, .f32⟩
  | .hbm, ⟨3, _⟩ => ⟨S640x2560, .fp8e4m3⟩
  | .hbm, ⟨4, _⟩ => ⟨S2560, .f32⟩
  | .hbm, ⟨5, _⟩ => ⟨S2560x1728, .fp8e4m3⟩
  | .hbm, ⟨6, _⟩ => ⟨S1728, .f32⟩
  | .hbm, ⟨7, _⟩ => ⟨S2560x1728, .fp8e4m3⟩
  | .hbm, ⟨8, _⟩ => ⟨S1728, .f32⟩
  | .hbm, ⟨9, _⟩ => ⟨S1728x2560, .fp8e4m3⟩
  | .hbm, ⟨10, _⟩ => ⟨S2560, .f32⟩
  | .hbm, ⟨11, _⟩ => ⟨S2x12288x5x128, .f32⟩
  | .hbm, ⟨12, _⟩ => ⟨S2x12288x640, .f32⟩
  | .hbm, ⟨13, _⟩ => ⟨S2x12240x640, .f32⟩
  | .hbm, ⟨14, _⟩ => ⟨S2x12240x2560, .bf16⟩
  | .hbm, ⟨15, _⟩ => ⟨S2x12240x640, .fp8e4m3⟩
  | .hbm, ⟨16, _⟩ => ⟨S2x12240, .f32⟩
  | .hbm, ⟨17, _⟩ => ⟨S2x12240x2560, .fp8e4m3⟩
  | .hbm, ⟨18, _⟩ => ⟨S2x12240, .f32⟩
  | .hbm, ⟨19, _⟩ => ⟨S2x1728x12240, .fp8e4m3⟩
  | .hbm, ⟨20, _⟩ => ⟨S2x12240, .f32⟩
  | .hbm, ⟨21, _⟩ => ⟨S2x12240x640, .bf16⟩
  | .local _ .vmem, ⟨0, _⟩ => ⟨S2x12240x640, .f32⟩
  | .local _ .vmem, ⟨1, _⟩ => ⟨S2x12240x2560, .bf16⟩
  | .local _ .vmem, ⟨2, _⟩ => ⟨S2x6x2560, .f32⟩
  | .local _ .vmem, ⟨3, _⟩ => ⟨S640x2560, .fp8e4m3⟩
  | .local _ .vmem, ⟨4, _⟩ => ⟨S2560, .f32⟩
  | .local _ .vmem, ⟨5, _⟩ => ⟨S2560x1728, .fp8e4m3⟩
  | .local _ .vmem, ⟨6, _⟩ => ⟨S1728, .f32⟩
  | .local _ .vmem, ⟨7, _⟩ => ⟨S2560x1728, .fp8e4m3⟩
  | .local _ .vmem, ⟨8, _⟩ => ⟨S1728, .f32⟩
  | .local _ .vmem, ⟨9, _⟩ => ⟨S1728x2560, .fp8e4m3⟩
  | .local _ .vmem, ⟨10, _⟩ => ⟨S2560, .f32⟩
  | .local _ .vmem, ⟨11, _⟩ => ⟨S2x12240x2560, .bf16⟩
  | .local _ .vmem, ⟨12, _⟩ => ⟨S2x12240x640, .fp8e4m3⟩
  | .local _ .vmem, ⟨13, _⟩ => ⟨S2x12240, .f32⟩
  | .local _ .vmem, ⟨14, _⟩ => ⟨S2x12240x2560, .fp8e4m3⟩
  | .local _ .vmem, ⟨15, _⟩ => ⟨S2x12240, .f32⟩
  | .local _ .vmem, ⟨16, _⟩ => ⟨S2x1728x12240, .fp8e4m3⟩
  | .local _ .vmem, ⟨17, _⟩ => ⟨S2x12240, .f32⟩
  | .local _ .vmem, ⟨18, _⟩ => ⟨S2x12240x640, .bf16⟩
  | _, _ => ⟨S2x5x12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v3_5 : Ref sig .tc := ⟨.hbm, 19, rfl⟩
abbrev main_v3_6 : Ref sig .tc := ⟨.hbm, 20, rfl⟩
abbrev main_v3_7 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S2x12240x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x12240x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S640x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560x1728 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1728 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2560x1728 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1728 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1728x2560 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x12240x2560 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x12240x640 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x12240 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x12240x2560 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x12240 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1728x12240 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x12240 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x12240x640 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.KernelRun.lean ====
/- The body of the call on whole buffers at any contents: it runs, hands its inputs back as they were, and leaves each
   output and scratch buffer at some contents. -/
module

public import proofs.«01_k».proof.Proof.Gen.Kernel.Skeleton
public import proofs.«01_k».proof.Proof.Gen.Kernel.Frame

@[expose] public section

-- membership in a rectangle of production extents (`View.cover_of_tiled`): the elaborator's structural look
-- recurses once per coordinate of the long axes
set_option maxRecDepth 16384

noncomputable section

namespace Cert.Kernel.Tail

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- Each window's current staging memref at point `t`, spelled as the pipeline passes it (`bodyAt0`), and its wholeness. -/
abbrev ms0_0 (t : Fin cfg0.N) : Memref sig .tc .vmem S2x5x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x256x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x2x2560 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x2560 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1728x2560 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1728 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1728x2560 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1728 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1728x2560 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2560 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x256x2560 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x256x640 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x256x2560 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x1728x256 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S2x256x640 .bf16 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S256x2560 .f32 := Memref.whole cc0_scratch0
abbrev scM0_1 : Memref sig .tc .vmem S256x1728 .f32 := Memref.whole cc0_scratch1
abbrev scM0_2 : Memref sig .tc .vmem S256x1728 .fp8e4m3 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- (the run's proof term is large: checking it walks past the default budget)
set_option maxHeartbeats 3800000 in set_option sl_exec.squeezeSlice true in
/-- The body's triple: on whole staging memrefs — the inputs' at their contents,
    the FORGOTTEN outputs' (11, 12, 13, 14, 15, 16, 17, 18) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec F S2x5x256x128 .f32) (x1 : Vec F S2x256x2560 .bf16) (x2 : Vec F S6x2x2560 .f32) (x3 : Vec F S640x2560 .fp8e4m3) (x4 : Vec F S1x2560 .f32) (x5 : Vec F S1728x2560 .fp8e4m3) (x6 : Vec F S1x1728 .f32) (x7 : Vec F S1728x2560 .fp8e4m3) (x8 : Vec F S1x1728 .f32) (x9 : Vec F S1728x2560 .fp8e4m3) (x10 : Vec F S1x2560 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mlp_vid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_mlp_vid_eq_skeleton]; unfold cc0_mlp_vid_skel
    simp only [k0_part74_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Tail

end
-- ==== Proof.KernelFrame.lean ====
/- The frame claim: every run ends, every argument array ends as it was launched, every semaphore counter ends at zero.
   What the outputs hold is left unnamed here. The second window's last block reaches past its array's end, so its buffer is
   described only on the rows inside the array. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Tail

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (11, 12, 13, 14, 15, 16, 17, 18): nothing reads what the kernel leaves in them, so nothing
    of it is named (Lib/Pipeline/Dat.lean `Dat.toRForget`). -/
def forgets0 : Fin 19 → Bool := fun w => w.val == 11 || w.val == 12 || w.val == 13 || w.val == 14 || w.val == 15 || w.val == 16 || w.val == 17 || w.val == 18

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .bf16 0#16) (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = win0_1.fill (grid0.coords t) (fun _ => Scalar.ofBits .bf16 0#16) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) :
    (dats m 0 c).before 1 t d = win0_1.fill (grid0.coords t) d (iblk m c 1 t) := by
  unfold Dat.before; rw [if_pos (fetch0_1 t)]; rfl
theorem cut0_1 (c : Dev nD) (t : Fin cfg0.N) :
    win0_1.cut (grid0.coords t) ((dats m 0 c).after 1 t) = iblk m c 1 t := by
  rw [after0_1]; exact win0_1.cut_fill _ _ _
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare (win0_1.fill (grid0.coords t) d (win0_1.cut (grid0.coords t) ((dats m 0 c).after 1 t))))
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, cut0_1, after0_2, after0_3, after0_4, after0_5, after0_6, after0_7, after0_8, after0_9, after0_10]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun0_A c (grid0.coords t) _ _ _ _ _ _ _ _ _ _ _ _ _ _ _ _ _ _ _ _ _ _ _ _ _ _ _ _ _ _ _ _ _ _ _ _ _ _ _ _ _ _ _ _ (iblk m c 0 t) (win0_1.fill (grid0.coords t) d1 (iblk m c 1 t)) (iblk m c 2 t) (iblk m c 3 t) (iblk m c 4 t) (iblk m c 5 t) (iblk m c 6 t) (iblk m c 7 t) (iblk m c 8 t) (iblk m c 9 t) (iblk m c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  iintro ⟨H0, H1, H2, H3, H4, H5, H6, H7, H8, H9, H10, H11, H12, H13, H14, H15, H16, H17, H18, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- Each argument array ends as launched. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 9 rfl).trans ((hA c 9).trans (V_main_arg9 m c)),
      ((h c).2 main_arg10 (Pipeline.mem_restRefs_of main_arg10 (by decide) (by decide))).trans (V_main_arg10 m c)⟩) h

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 11, 12, 13, 14, 15, 16, 17, 18) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Tail

end
-- ==== Proof.IdealNamed.lean ====
/- The body of the call on whole buffers at any contents, with what its stores leave in each output named: lists of stored
   pieces, last first, each a rectangle of the buffer and the value stored there. -/
module

public import proofs.«01_k».proof.Proof.Gen.KernelIdeal.Skeleton
public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Tail

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3800000 in set_option sl_exec.squeezeSlice true in
/-- What the body's stores leave in each output's buffer and in the three scratch buffers, as pieces (last first), with the
    proof that on whole buffers — the inputs at their contents, the rest at anything — the body runs and hands the inputs
    back as they were and every other buffer with its pieces written over some contents. -/
noncomputable def namedRun (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec F S2x5x256x128 .f32) (x1 : Vec F S2x256x2560 .bf16) (x2 : Vec F S6x2x2560 .f32) (x3 : Vec F S640x2560 .fp8e4m3) (x4 : Vec F S1x2560 .f32) (x5 : Vec F S1728x2560 .fp8e4m3) (x6 : Vec F S1x1728 .f32) (x7 : Vec F S1728x2560 .fp8e4m3) (x8 : Vec F S1x1728 .f32) (x9 : Vec F S1728x2560 .fp8e4m3) (x10 : Vec F S1x2560 .f32) :
    Σ' (L11 : List (View.Piece (Elt F) S2x256x2560 .bf16)), Σ' (L12 : List (View.Piece (Elt F) S2x256x640 .fp8e4m3)), Σ' (L13 : List (View.Piece (Elt F) S2x256 .f32)), Σ' (L14 : List (View.Piece (Elt F) S2x256x2560 .fp8e4m3)), Σ' (L15 : List (View.Piece (Elt F) S2x256 .f32)), Σ' (L16 : List (View.Piece (Elt F) S2x1728x256 .fp8e4m3)), Σ' (L17 : List (View.Piece (Elt F) S2x256 .f32)), Σ' (L18 : List (View.Piece (Elt F) S2x256x640 .bf16)), Σ' (LT0 : List (View.Piece (Elt F) S256x2560 .f32)), Σ' (LT1 : List (View.Piece (Elt F) S256x1728 .f32)), { LT2 : List (View.Piece (Elt F) S256x1728 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f LT0) ∗ (∃ f, arg21.view.loc (c : Thread nD τ) ↦[arg21.view.set]{fullShare} arg21.view.writes (Elt F) f LT1) ∗ (∃ f, arg22.view.loc (c : Thread nD τ) ↦[arg22.view.set]{fullShare} arg22.view.writes (Elt F) f LT2)) -∗ K ⟨⟩))
          ⊢ wp frame (wpE (defs₀ (F := F)) Variants.none c none) E (cc0_mlp_vid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, fun E K => ?run⟩
  case run =>
    simp only [cc0_mlp_vid_eq_skeleton]; unfold cc0_mlp_vid_skel
    simp only [k0_part74_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexists _; iexact HS0
    isplitl [HS1]; · iexists _; iexact HS1
    iexists _; iexact HS2

end Cert.KernelIdeal.Tail

end
-- ==== Proof.Rows.lean ====
/- One token's row through the layer's tail, over the extended reals: the row's scale and codes, a product of codes with a
   matrix, the modulated norm, the gate. Both programs' results are these functions of a token's attention row and of its
   residual row. -/
module

public import Idealize.ShloMosaic.Lib.Pointwise

@[expose] public section

noncomputable section

namespace Cert.Tail

open Idealize.ShloMosaic

/-- The largest magnitude of a row. -/
def rowMax {n : ℕ} (v : Fin n → EReal) : EReal :=
  Finset.univ.fold max (Ideal.ofBits .f32 0xFF800000#32) (fun k => FloatOps.absf (F := Ideal) (φ := .f32) (v k))

/-- A row's scale: its largest magnitude over 448, or 1 for a row of zeros. -/
def rowScale {n : ℕ} (v : Fin n → EReal) : EReal :=
  if rowMax v = 0 then 1 else Ideal.div (rowMax v) (Ideal.ofBits .f32 0x43E00000#32)

/-- A row's codes: the row over its scale, clipped to [-448, 448]. -/
def rowCodes {n : ℕ} (v : Fin n → EReal) (k : Fin n) : EReal :=
  min (Ideal.ofBits .f32 0x43E00000#32) (max (Ideal.ofBits .f32 0xC3E00000#32) (Ideal.div (v k) (rowScale v)))

/-- The row quantised, times a column of codes with its own scale. -/
def rowDot {n : ℕ} (v w : Fin n → EReal) (s : EReal) : EReal :=
  (∑ k, rowCodes v k * w k) * rowScale v * s

/-- The modulated root-mean-square norm of a row of 2560. -/
def rowNorm (shift scale v : Fin 2560 → EReal) (k : Fin 2560) : EReal :=
  Ideal.div (v k) (Ideal.sqrt (Ideal.div (∑ l, v l * v l) (Ideal.ofBits .f32 0x45200000#32) + Ideal.ofBits .f32 0x358637BD#32))
      * (1 + scale k) + shift k

/-- What a token's row meets besides itself: the four modulation rows of its video, the projections' codes and scales. -/
structure Par where
  gate1 : Fin 2560 → EReal
  shift : Fin 2560 → EReal
  scale : Fin 2560 → EReal
  gate2 : Fin 2560 → EReal
  wo : Fin 640 → Fin 2560 → EReal
  so : Fin 2560 → EReal
  w1 : Fin 1728 → Fin 2560 → EReal
  s1 : Fin 1728 → EReal
  w3 : Fin 1728 → Fin 2560 → EReal
  s3 : Fin 1728 → EReal
  w2 : Fin 1728 → Fin 2560 → EReal
  s2 : Fin 2560 → EReal

/-- The row after the attention branch. -/
def rowY (p : Par) (a : Fin 640 → EReal) (x : Fin 2560 → EReal) (c : Fin 2560) : EReal :=
  x c + p.gate1 c * rowDot a (fun k => p.wo k c) (p.so c)

/-- That row normed and modulated. -/
def rowN (p : Par) (a : Fin 640 → EReal) (x : Fin 2560 → EReal) : Fin 2560 → EReal :=
  rowNorm p.shift p.scale (rowY p a x)

/-- The gated hidden row. -/
def rowH (p : Par) (a : Fin 640 → EReal) (x : Fin 2560 → EReal) (j : Fin 1728) : EReal :=
  rowDot (rowN p a x) (p.w1 j) (p.s1 j) * Ideal.logistic (rowDot (rowN p a x) (p.w1 j) (p.s1 j))
    * rowDot (rowN p a x) (p.w3 j) (p.s3 j)

/-- The row after the MLP branch. -/
def rowO (p : Par) (a : Fin 640 → EReal) (x : Fin 2560 → EReal) (c : Fin 2560) : EReal :=
  rowY p a x c + p.gate2 c * rowDot (rowH p a x) (fun j => p.w2 j c) (p.s2 c)

end Cert.Tail

end
-- ==== Proof.Stages.lean ====
/- The body's steps read at an index: each step of the printed body, as a function of what it reads, against the row
   functions of `Rows`. -/
module

public import proofs.«01_k».proof.Proof.Gen.KernelIdeal.Skeleton
public import proofs.«01_k».proof.Proof.Rows
public import Idealize.ShloMosaic.Lib.Pointwise
public import Idealize.ShloMosaic.Lib.WholeRead

@[expose] public section

noncomputable section

namespace Cert.KernelIdeal.Tail

open Cert.KernelIdeal.Gen Cert.Tail
open Idealize.ShloMosaic Idealize.ShloMosaic.TcCoe Idealize.ShloMosaic.Tactic

/-! ## The rows of the blocks, at plain numbers (zero off the block) -/

/-- The attention row `r` of video `b` of a block: the five heads side by side. -/
def arow (x0 : Vec Ideal S2x5x256x128 .f32) (b r : ℕ) (k : Fin 640) : EReal :=
  if h : b < 2 ∧ r < 256 then x0 (ix4 ⟨b, h.1⟩ ⟨k.val / 128, by omega⟩ ⟨r, h.2⟩ ⟨k.val % 128, by omega⟩) else 0

/-- The residual row. -/
def xrow (x1 : Vec Ideal S2x256x2560 .bf16) (b r : ℕ) (c : Fin 2560) : EReal :=
  if h : b < 2 ∧ r < 256 then x1 (ix3 ⟨b, h.1⟩ ⟨r, h.2⟩ c) else 0

/-- A modulation row. -/
def mrow (x2 : Vec Ideal S6x2x2560 .f32) (i : Fin 6) (b : ℕ) (c : Fin 2560) : EReal :=
  if h : b < 2 then x2 (ix3 i ⟨b, h⟩ c) else 0

/-- The parameters a row of video `b` meets. -/
def par (x2 : Vec Ideal S6x2x2560 .f32) (x3 : Vec Ideal S640x2560 .fp8e4m3) (x4 : Vec Ideal S1x2560 .f32)
    (x5 : Vec Ideal S1728x2560 .fp8e4m3) (x6 : Vec Ideal S1x1728 .f32) (x7 : Vec Ideal S1728x2560 .fp8e4m3)
    (x8 : Vec Ideal S1x1728 .f32) (x9 : Vec Ideal S1728x2560 .fp8e4m3) (x10 : Vec Ideal S1x2560 .f32) (b : ℕ) : Par where
  gate1 := mrow x2 2 b
  shift := mrow x2 3 b
  scale := mrow x2 4 b
  gate2 := mrow x2 5 b
  wo k c := x3 (ix2 k c)
  so c := x4 (ix2 0 c)
  w1 j k := x5 (ix2 j k)
  s1 j := x6 (ix2 0 j)
  w3 j k := x7 (ix2 j k)
  s3 j := x8 (ix2 0 j)
  w2 j c := x9 (ix2 j c)
  s2 c := x10 (ix2 0 c)

/-! ## The quantiser's steps -/

/-- The scales of 32 rows of 640. -/
def stScale640 (v : FVec Ideal S32x640 .f32) : FVec Ideal S32x1 .f32 :=
  let m : FVec Ideal S32x1 .f32 := shapeCast S32x1 (multiReduction .maximumf [1] S32 (absf v) 0xFF800000#32 reduces_S32x640_S32 (.inl rfl) rfl) shapeCasts_S32_S32x1
  select (cmpf .oeq m (broadcast S32x1 (Scalar.ofBits .f32 0x00000000#32))) (broadcast S32x1 (Scalar.ofBits .f32 0x3F800000#32))
    (divf m (broadcast S32x1 (Scalar.ofBits .f32 0x43E00000#32)))

theorem stScale640_at (v : FVec Ideal S32x640 .f32) (r : Fin 32) (f : Fin 640 → EReal) (h : ∀ k, v (ix2 r k) = f k) :
    stScale640 v (ix2 r 0) = rowScale f := by
  obtain rfl : (fun k => v (ix2 r k)) = f := funext h
  pointwise [stScale640, rowScale, rowMax]

/-- The scales of 32 rows of 2560. -/
def stScale2560 (v : FVec Ideal S32x2560 .f32) : FVec Ideal S32x1 .f32 :=
  let m : FVec Ideal S32x1 .f32 := shapeCast S32x1 (multiReduction .maximumf [1] S32 (absf v) 0xFF800000#32 reduces_S32x2560_S32 (.inl rfl) rfl) shapeCasts_S32_S32x1
  select (cmpf .oeq m (broadcast S32x1 (Scalar.ofBits .f32 0x00000000#32))) (broadcast S32x1 (Scalar.ofBits .f32 0x3F800000#32))
    (divf m (broadcast S32x1 (Scalar.ofBits .f32 0x43E00000#32)))

theorem stScale2560_at (v : FVec Ideal S32x2560 .f32) (r : Fin 32) (f : Fin 2560 → EReal) (h : ∀ k, v (ix2 r k) = f k) :
    stScale2560 v (ix2 r 0) = rowScale f := by
  obtain rfl : (fun k => v (ix2 r k)) = f := funext h
  pointwise [stScale2560, rowScale, rowMax]

/-- The scales of 32 rows of 1728. -/
def stScale1728 (v : FVec Ideal S32x1728 .f32) : FVec Ideal S32x1 .f32 :=
  let m : FVec Ideal S32x1 .f32 := shapeCast S32x1 (multiReduction .maximumf [1] S32 (absf v) 0xFF800000#32 reduces_S32x1728_S32 (.inl rfl) rfl) shapeCasts_S32_S32x1
  select (cmpf .oeq m (broadcast S32x1 (Scalar.ofBits .f32 0x00000000#32))) (broadcast S32x1 (Scalar.ofBits .f32 0x3F800000#32))
    (divf m (broadcast S32x1 (Scalar.ofBits .f32 0x43E00000#32)))

theorem stScale1728_at (v : FVec Ideal S32x1728 .f32) (r : Fin 32) (f : Fin 1728 → EReal) (h : ∀ k, v (ix2 r k) = f k) :
    stScale1728 v (ix2 r 0) = rowScale f := by
  obtain rfl : (fun k => v (ix2 r k)) = f := funext h
  pointwise [stScale1728, rowScale, rowMax]

/-- The codes of 32 rows of 640 at their scales. -/
def stCodes640 (v : FVec Ideal S32x640 .f32) (s : FVec Ideal S32x1 .f32) : FVec Ideal S32x640 .fp8e4m3 :=
  truncf .fp8e4m3 (minimumf (broadcast S32x640 (Scalar.ofBits .f32 0x43E00000#32)) (maximumf (broadcast S32x640 (Scalar.ofBits .f32 0xC3E00000#32))
    (divf v (broadcastTo S32x640 s broadcasts_S32x1_S32x640)))) bitsLt_fp8e4m3_f32

theorem stCodes640_at (v : FVec Ideal S32x640 .f32) (s : FVec Ideal S32x1 .f32) (r : Fin 32) (f : Fin 640 → EReal)
    (h : ∀ k, v (ix2 r k) = f k) (hs : s (ix2 r 0) = rowScale f) (k : Fin 640) : stCodes640 v s (ix2 r k) = rowCodes f k := by
  obtain rfl : (fun k => v (ix2 r k)) = f := funext h
  pointwise [stCodes640, rowCodes]
  rw [hs]

/-- The codes of 32 rows of 2560 at their scales. -/
def stCodes2560 (v : FVec Ideal S32x2560 .f32) (s : FVec Ideal S32x1 .f32) : FVec Ideal S32x2560 .fp8e4m3 :=
  truncf .fp8e4m3 (minimumf (broadcast S32x2560 (Scalar.ofBits .f32 0x43E00000#32)) (maximumf (broadcast S32x2560 (Scalar.ofBits .f32 0xC3E00000#32))
    (divf v (broadcastTo S32x2560 s broadcasts_S32x1_S32x2560)))) bitsLt_fp8e4m3_f32

theorem stCodes2560_at (v : FVec Ideal S32x2560 .f32) (s : FVec Ideal S32x1 .f32) (r : Fin 32) (f : Fin 2560 → EReal)
    (h : ∀ k, v (ix2 r k) = f k) (hs : s (ix2 r 0) = rowScale f) (k : Fin 2560) : stCodes2560 v s (ix2 r k) = rowCodes f k := by
  obtain rfl : (fun k => v (ix2 r k)) = f := funext h
  pointwise [stCodes2560, rowCodes]
  rw [hs]

/-- The codes of 32 rows of 1728 at their scales. -/
def stCodes1728 (v : FVec Ideal S32x1728 .f32) (s : FVec Ideal S32x1 .f32) : FVec Ideal S32x1728 .fp8e4m3 :=
  truncf .fp8e4m3 (minimumf (broadcast S32x1728 (Scalar.ofBits .f32 0x43E00000#32)) (maximumf (broadcast S32x1728 (Scalar.ofBits .f32 0xC3E00000#32))
    (divf v (broadcastTo S32x1728 s broadcasts_S32x1_S32x1728)))) bitsLt_fp8e4m3_f32

theorem stCodes1728_at (v : FVec Ideal S32x1728 .f32) (s : FVec Ideal S32x1 .f32) (r : Fin 32) (f : Fin 1728 → EReal)
    (h : ∀ k, v (ix2 r k) = f k) (hs : s (ix2 r 0) = rowScale f) (k : Fin 1728) : stCodes1728 v s (ix2 r k) = rowCodes f k := by
  obtain rfl : (fun k => v (ix2 r k)) = f := funext h
  pointwise [stCodes1728, rowCodes]
  rw [hs]

/-! ## The attention rows -/

section
variable {arg1 : Memref sig .tc .vmem S2x5x256x128 .f32} (harg1 : arg1.IsWhole) (x0 : Vec Ideal S2x5x256x128 .f32)

/-- 32 rows of one head as a load reads them. -/
abbrev ldA (b h o : ℕ) (inb : ∀ a : Fin 4, (![b, h, o, 0] : Fin 4 → ℕ) a + S1x1x32x128.size a ≤ S2x5x256x128.size a) : Vec Ideal S1x1x32x128 .f32 :=
  View.readAt (Elt Ideal) arg1.view (Rect.unit (s := S2x5x256x128) ![b, h, o, 0] S1x1x32x128.size inb).toLoadRect (harg1.unread x0)

theorem cat_at (b o : ℕ) (i0 i1 i2 i3 i4) (r : Fin 32) (k : Fin 640) :
    k0_pay2 (F := Ideal) (ldA harg1 x0 b 0 o i0) (ldA harg1 x0 b 1 o i1) (ldA harg1 x0 b 2 o i2) (ldA harg1 x0 b 3 o i3) (ldA harg1 x0 b 4 o i4) (ix2 r k)
      = arow x0 b (o + r.val) k := by
  have hb : b < 2 := by have := i0 0; simp at this; omega
  have ho : o + r.val < 256 := by have := i0 2; simp at this; omega
  unfold arow
  rw [dif_pos ⟨hb, ho⟩]
  pointwise [k0_pay2, ldA, Memref.IsWhole.readAt_unread]
  split_ifs <;> (refine congrArg x0 ?_; congr 1 <;> (apply Fin.ext; simp; omega))
end

/-! ## Eight columns of scales -/

theorem cat8_at (c0 c1 c2 c3 c4 c5 c6 c7 : FVec Ideal S32x1 .f32) (f : ℕ → EReal)
    (h0 : ∀ r : Fin 32, c0 (ix2 r 0) = f (0 + r.val)) (h1 : ∀ r : Fin 32, c1 (ix2 r 0) = f (32 + r.val))
    (h2 : ∀ r : Fin 32, c2 (ix2 r 0) = f (64 + r.val)) (h3 : ∀ r : Fin 32, c3 (ix2 r 0) = f (96 + r.val))
    (h4 : ∀ r : Fin 32, c4 (ix2 r 0) = f (128 + r.val)) (h5 : ∀ r : Fin 32, c5 (ix2 r 0) = f (160 + r.val))
    (h6 : ∀ r : Fin 32, c6 (ix2 r 0) = f (192 + r.val)) (h7 : ∀ r : Fin 32, c7 (ix2 r 0) = f (224 + r.val)) (r : Fin 256) :
    k0_pay50 (F := Ideal) c0 c1 c2 c3 c4 c5 c6 c7 (ix2 r 0) = f r.val := by
  pointwise [k0_pay50]
  split_ifs <;> simp only [h0, h1, h2, h3, h4, h5, h6, h7] <;> congr 1 <;> omega

/-- A column of 256 scales laid out as a row. -/
def stRow (c : FVec Ideal S256x1 .f32) : FVec Ideal S1x256 .f32 :=
  extractStridedSlice S1x256 ![0, 0] (transpose S128x256 [1, 0] (broadcastTo S256x128 (shapeCast S256x1 c shapeCasts_S256x1_S256x1) broadcasts_S256x1_S256x128) transposes_S256x128_p1_0_S128x256) slices_S128x256_o0_0_S1x256

theorem stRow_at (c : FVec Ideal S256x1 .f32) (r : Fin 256) : stRow c (ix2 0 r) = c (ix2 r 0) := by
  pointwise [stRow]

/-! ## The two projections' column chunks, the norm, the gate -/

section
variable {arg2 : Memref sig .tc .vmem S2x256x2560 .bf16} (harg2 : arg2.IsWhole) {arg3 : Memref sig .tc .vmem S6x2x2560 .f32} (harg3 : arg3.IsWhole)
  {arg4 : Memref sig .tc .vmem S640x2560 .fp8e4m3} (harg4 : arg4.IsWhole) {arg5 : Memref sig .tc .vmem S1x2560 .f32} (harg5 : arg5.IsWhole)
  {arg6 : Memref sig .tc .vmem S1728x2560 .fp8e4m3} (harg6 : arg6.IsWhole) {arg7 : Memref sig .tc .vmem S1x1728 .f32} (harg7 : arg7.IsWhole)
  {arg8 : Memref sig .tc .vmem S1728x2560 .fp8e4m3} (harg8 : arg8.IsWhole) {arg9 : Memref sig .tc .vmem S1x1728 .f32} (harg9 : arg9.IsWhole)
  {arg10 : Memref sig .tc .vmem S1728x2560 .fp8e4m3} (harg10 : arg10.IsWhole) {arg11 : Memref sig .tc .vmem S1x2560 .f32} (harg11 : arg11.IsWhole)
  (x0 : Vec Ideal S2x5x256x128 .f32) (x1 : Vec Ideal S2x256x2560 .bf16) (x2 : Vec Ideal S6x2x2560 .f32) (x3 : Vec Ideal S640x2560 .fp8e4m3) (x4 : Vec Ideal S1x2560 .f32)
  (x5 : Vec Ideal S1728x2560 .fp8e4m3) (x6 : Vec Ideal S1x1728 .f32) (x7 : Vec Ideal S1728x2560 .fp8e4m3)
  (x8 : Vec Ideal S1x1728 .f32) (x9 : Vec Ideal S1728x2560 .fp8e4m3) (x10 : Vec Ideal S1x2560 .f32)

/-- 256 columns of the residual rows, of a modulation row, of the output projection's codes and scales, as loads read them. -/
abbrev ldX (b c : ℕ) (inb : ∀ a : Fin 3, (![b, 0, c] : Fin 3 → ℕ) a + S1x256x256.size a ≤ S2x256x2560.size a) : Vec Ideal S1x256x256 .bf16 :=
  View.readAt (Elt Ideal) arg2.view (Rect.unit (s := S2x256x2560) ![b, 0, c] S1x256x256.size inb).toLoadRect (harg2.unread x1)
abbrev ldM (i b c : ℕ) (inb : ∀ a : Fin 3, (![i, b, c] : Fin 3 → ℕ) a + S1x1x256.size a ≤ S6x2x2560.size a) : Vec Ideal S1x1x256 .f32 :=
  View.readAt (Elt Ideal) arg3.view (Rect.unit (s := S6x2x2560) ![i, b, c] S1x1x256.size inb).toLoadRect (harg3.unread x2)
abbrev ldMw (i b : ℕ) (inb : ∀ a : Fin 3, (![i, b, 0] : Fin 3 → ℕ) a + S1x1x2560.size a ≤ S6x2x2560.size a) : Vec Ideal S1x1x2560 .f32 :=
  View.readAt (Elt Ideal) arg3.view (Rect.unit (s := S6x2x2560) ![i, b, 0] S1x1x2560.size inb).toLoadRect (harg3.unread x2)
abbrev ldWo (c : ℕ) (inb : ∀ a : Fin 2, (![0, c] : Fin 2 → ℕ) a + S640x256.size a ≤ S640x2560.size a) : Vec Ideal S640x256 .fp8e4m3 :=
  View.readAt (Elt Ideal) arg4.view (Rect.unit (s := S640x2560) ![0, c] S640x256.size inb).toLoadRect (harg4.unread x3)
abbrev ldSo (c : ℕ) (inb : ∀ a : Fin 2, (![0, c] : Fin 2 → ℕ) a + S1x256.size a ≤ S1x2560.size a) : Vec Ideal S1x256 .f32 :=
  View.readAt (Elt Ideal) arg5.view (Rect.unit (s := S1x2560) ![0, c] S1x256.size inb).toLoadRect (harg5.unread x4)
abbrev ldW1 (c : ℕ) (inb : ∀ a : Fin 2, (![c, 0] : Fin 2 → ℕ) a + S256x2560.size a ≤ S1728x2560.size a) : Vec Ideal S256x2560 .fp8e4m3 :=
  View.readAt (Elt Ideal) arg6.view (Rect.unit (s := S1728x2560) ![c, 0] S256x2560.size inb).toLoadRect (harg6.unread x5)
abbrev ldS1 (c : ℕ) (inb : ∀ a : Fin 2, (![0, c] : Fin 2 → ℕ) a + S1x256.size a ≤ S1x1728.size a) : Vec Ideal S1x256 .f32 :=
  View.readAt (Elt Ideal) arg7.view (Rect.unit (s := S1x1728) ![0, c] S1x256.size inb).toLoadRect (harg7.unread x6)
abbrev ldW1' (c : ℕ) (inb : ∀ a : Fin 2, (![c, 0] : Fin 2 → ℕ) a + S192x2560.size a ≤ S1728x2560.size a) : Vec Ideal S192x2560 .fp8e4m3 :=
  View.readAt (Elt Ideal) arg6.view (Rect.unit (s := S1728x2560) ![c, 0] S192x2560.size inb).toLoadRect (harg6.unread x5)
abbrev ldS1' (c : ℕ) (inb : ∀ a : Fin 2, (![0, c] : Fin 2 → ℕ) a + S1x192.size a ≤ S1x1728.size a) : Vec Ideal S1x192 .f32 :=
  View.readAt (Elt Ideal) arg7.view (Rect.unit (s := S1x1728) ![0, c] S1x192.size inb).toLoadRect (harg7.unread x6)
abbrev ldW2 (c : ℕ) (inb : ∀ a : Fin 2, (![0, c] : Fin 2 → ℕ) a + S1728x256.size a ≤ S1728x2560.size a) : Vec Ideal S1728x256 .fp8e4m3 :=
  View.readAt (Elt Ideal) arg10.view (Rect.unit (s := S1728x2560) ![0, c] S1728x256.size inb).toLoadRect (harg10.unread x9)

/-- A 256-column chunk of the rows after the attention branch. -/
def stY (sc : FVec Ideal S256x1 .f32) (cd : FVec Ideal S1x256x640 .fp8e4m3) (w : Vec Ideal S640x256 .fp8e4m3) (s : Vec Ideal S1x256 .f32)
    (x : Vec Ideal S1x256x256 .bf16) (g : Vec Ideal S1x1x256 .f32) : FVec Ideal S256x256 .f32 :=
  k0_pay67 (F := Ideal) sc (k0_pay52 (F := Ideal) cd) w s x g

theorem stY_at (b c : ℕ) (sc : FVec Ideal S256x1 .f32) (cd : FVec Ideal S1x256x640 .fp8e4m3)
    (hsc : ∀ r : Fin 256, sc (ix2 r 0) = rowScale (arow x0 b r.val))
    (hcd : ∀ (r : Fin 256) k, cd (ix3 0 r k) = rowCodes (arow x0 b r.val) k) (i0 i1 i2 i3) (r k : Fin 256) (l : Fin 2560) (hl : l.val = c + k.val) :
    stY sc cd (ldWo harg4 x3 c i0) (ldSo harg5 x4 c i1) (ldX harg2 x1 b c i2) (ldM harg3 x2 2 b c i3) (ix2 r k)
      = rowY (par x2 x3 x4 x5 x6 x7 x8 x9 x10 b) (arow x0 b r.val) (xrow x1 b r.val) l := by
  have hb : b < 2 := by have := i2 0; simp at this; omega
  have hc : c + k.val < 2560 := hl ▸ l.isLt
  obtain rfl : l = ⟨c + k.val, hc⟩ := Fin.ext hl
  simp only [rowY, rowDot, par, xrow, mrow]
  rw [dif_pos ⟨hb, r.isLt⟩, dif_pos hb]
  pointwise [stY, k0_pay67, k0_pay52, Memref.IsWhole.readAt_unread]
  simp only [hsc, hcd]

/-- The norm of 32 rows. -/
def stNorm (m3 m4 : Vec Ideal S1x1x2560 .f32) (y : Vec Ideal S32x2560 .f32) : FVec Ideal S32x2560 .f32 :=
  k0_pay70 (F := Ideal) (k0_pay68 (F := Ideal) m3) (k0_pay69 (F := Ideal) m4) y

theorem stNorm_at (b : ℕ) (y : Vec Ideal S32x2560 .f32) (r : Fin 32) (f : Fin 2560 → EReal) (h : ∀ k, y (ix2 r k) = f k) (i3 i4) (k : Fin 2560) :
    stNorm (ldMw harg3 x2 3 b i3) (ldMw harg3 x2 4 b i4) y (ix2 r k) = rowNorm (mrow x2 3 b) (mrow x2 4 b) f k := by
  have hb : b < 2 := by have := i3 1; simp at this; omega
  obtain rfl : (fun k => y (ix2 r k)) = f := funext h
  simp only [rowNorm, mrow]
  rw [dif_pos hb, dif_pos hb]
  pointwise [stNorm, k0_pay70, k0_pay68, k0_pay69, Memref.IsWhole.readAt_unread]

/-- A 256-column chunk of one product of the gated pair. -/
def stLin (sc : FVec Ideal S256x1 .f32) (cd : FVec Ideal S1x256x2560 .fp8e4m3) (w : FVec Ideal S256x2560 .fp8e4m3) (s : FVec Ideal S1x256 .f32) :
    FVec Ideal S256x256 .f32 :=
  mulf (mulf (matmul dot_S256x2560_S256x2560_S256x256_1_1_0_0_n_n none (k0_pay103 (F := Ideal) cd) (shapeCast S256x2560 w shapeCasts_S256x2560_S256x2560)
    (constant S256x256 .f32 0x00000000#32)) (broadcastTo S256x256 sc broadcasts_S256x1_S256x256))
    (broadcastTo S256x256 (shapeCast S1x256 s shapeCasts_S1x256_S1x256) broadcasts_S1x256_S256x256)

theorem stLin_at (sc : FVec Ideal S256x1 .f32) (cd : FVec Ideal S1x256x2560 .fp8e4m3) (f : ℕ → Fin 2560 → EReal)
    (hsc : ∀ r : Fin 256, sc (ix2 r 0) = rowScale (f r.val)) (hcd : ∀ (r : Fin 256) k, cd (ix3 0 r k) = rowCodes (f r.val) k)
    (w : Vec Ideal S256x2560 .fp8e4m3) (s : Vec Ideal S1x256 .f32) (r k : Fin 256) (g : Fin 2560 → EReal) (t : EReal)
    (hw : ∀ l, w (ix2 k l) = g l) (hs : s (ix2 0 k) = t) :
    stLin sc cd w s (ix2 r k) = rowDot (f r.val) g t := by
  pointwise [stLin, k0_pay103, rowDot]
  simp only [hsc, hcd, hw, hs]

/-- The gated pair of products over a 256-column chunk. -/
def stH (sc : FVec Ideal S256x1 .f32) (cd : FVec Ideal S1x256x2560 .fp8e4m3) (w1 w3 : Vec Ideal S256x2560 .fp8e4m3) (s1 s3 : Vec Ideal S1x256 .f32) :
    FVec Ideal S256x256 .f32 :=
  shapeCast S256x256 (mulf (mulf (stLin sc cd w1 s1) (logistic (stLin sc cd w1 s1))) (stLin sc cd w3 s3)) shapeCasts_S256x256_S256x256

theorem stH_read (sc : FVec Ideal S256x1 .f32) (cd : FVec Ideal S1x256x2560 .fp8e4m3) (w1 w3 : FVec Ideal S256x2560 .fp8e4m3) (s1 s3 : FVec Ideal S1x256 .f32)
    (r : Fin 256) (k : Fin 256) : stH sc cd w1 w3 s1 s3 (ix2 r k)
      = stLin sc cd w1 s1 (ix2 r k) * Ideal.logistic (stLin sc cd w1 s1 (ix2 r k)) * stLin sc cd w3 s3 (ix2 r k) := by
  pointwise [stH]

theorem ldW1_at (c : ℕ) (i0) (k : Fin 256) (l : Fin 2560) (j : Fin 1728) (hj : j.val = c + k.val) : ldW1 harg6 x5 c i0 (ix2 k l) = x5 (ix2 j l) := by
  have hc : c + k.val < 1728 := hj ▸ j.isLt
  obtain rfl : j = ⟨c + k.val, hc⟩ := Fin.ext hj
  pointwise [Memref.IsWhole.readAt_unread]

theorem ldS1_at (c : ℕ) (i0) (k : Fin 256) (j : Fin 1728) (hj : j.val = c + k.val) : ldS1 harg7 x6 c i0 (ix2 0 k) = x6 (ix2 0 j) := by
  have hc : c + k.val < 1728 := hj ▸ j.isLt
  obtain rfl : j = ⟨c + k.val, hc⟩ := Fin.ext hj
  pointwise [Memref.IsWhole.readAt_unread]

theorem stH_at (c : ℕ) (p : Par) (a : ℕ → Fin 640 → EReal) (x : ℕ → Fin 2560 → EReal)
    (hp1 : p.w1 = fun j k => x5 (ix2 j k)) (hs1 : p.s1 = fun j => x6 (ix2 0 j)) (hp3 : p.w3 = fun j k => x7 (ix2 j k)) (hs3 : p.s3 = fun j => x8 (ix2 0 j))
    (sc : FVec Ideal S256x1 .f32) (cd : FVec Ideal S1x256x2560 .fp8e4m3)
    (hsc : ∀ r : Fin 256, sc (ix2 r 0) = rowScale (rowN p (a r.val) (x r.val)))
    (hcd : ∀ (r : Fin 256) k, cd (ix3 0 r k) = rowCodes (rowN p (a r.val) (x r.val)) k)
    (i0 i1 i2 i3) (r : Fin 256) (k : Fin 256) (l : Fin 1728) (hl : l.val = c + k.val) :
    stH sc cd (ldW1 harg6 x5 c i0) (ldW1 harg8 x7 c i1) (ldS1 harg7 x6 c i2) (ldS1 harg9 x8 c i3) (ix2 r k)
      = rowH p (a r.val) (x r.val) l := by
  rw [stH_read, stLin_at sc cd (fun r => rowN p (a r) (x r)) hsc hcd _ _ r k (p.w1 l) (p.s1 l) (fun j => by rw [hp1, ldW1_at harg6 x5 c i0 k j l hl]) (by rw [hs1, ldS1_at harg7 x6 c i2 k l hl]),
    stLin_at sc cd (fun r => rowN p (a r) (x r)) hsc hcd _ _ r k (p.w3 l) (p.s3 l) (fun j => by rw [hp3, ldW1_at harg8 x7 c i1 k j l hl]) (by rw [hs3, ldS1_at harg9 x8 c i3 k l hl])]
  rfl

/-- The same over the last 192 columns. -/
def stLin' (sc : FVec Ideal S256x1 .f32) (cd : FVec Ideal S1x256x2560 .fp8e4m3) (w : FVec Ideal S192x2560 .fp8e4m3) (s : FVec Ideal S1x192 .f32) :
    FVec Ideal S256x192 .f32 :=
  mulf (mulf (matmul dot_S256x2560_S192x2560_S256x192_1_1_0_0_n_n none (k0_pay103 (F := Ideal) cd) (shapeCast S192x2560 w shapeCasts_S192x2560_S192x2560)
    (constant S256x192 .f32 0x00000000#32)) (broadcastTo S256x192 sc broadcasts_S256x1_S256x192))
    (broadcastTo S256x192 (shapeCast S1x192 s shapeCasts_S1x192_S1x192) broadcasts_S1x192_S256x192)

theorem stLin'_at (sc : FVec Ideal S256x1 .f32) (cd : FVec Ideal S1x256x2560 .fp8e4m3) (f : ℕ → Fin 2560 → EReal)
    (hsc : ∀ r : Fin 256, sc (ix2 r 0) = rowScale (f r.val)) (hcd : ∀ (r : Fin 256) k, cd (ix3 0 r k) = rowCodes (f r.val) k)
    (w : Vec Ideal S192x2560 .fp8e4m3) (s : Vec Ideal S1x192 .f32) (r : Fin 256) (k : Fin 192) (g : Fin 2560 → EReal) (t : EReal)
    (hw : ∀ l, w (ix2 k l) = g l) (hs : s (ix2 0 k) = t) :
    stLin' sc cd w s (ix2 r k) = rowDot (f r.val) g t := by
  pointwise [stLin', k0_pay103, rowDot]
  simp only [hsc, hcd, hw, hs]

def stH' (sc : FVec Ideal S256x1 .f32) (cd : FVec Ideal S1x256x2560 .fp8e4m3) (w1 w3 : Vec Ideal S192x2560 .fp8e4m3) (s1 s3 : Vec Ideal S1x192 .f32) :
    FVec Ideal S256x192 .f32 :=
  shapeCast S256x192 (mulf (mulf (stLin' sc cd w1 s1) (logistic (stLin' sc cd w1 s1))) (stLin' sc cd w3 s3)) shapeCasts_S256x192_S256x192

theorem stH'_read (sc : FVec Ideal S256x1 .f32) (cd : FVec Ideal S1x256x2560 .fp8e4m3) (w1 w3 : FVec Ideal S192x2560 .fp8e4m3) (s1 s3 : FVec Ideal S1x192 .f32)
    (r : Fin 256) (k : Fin 192) : stH' sc cd w1 w3 s1 s3 (ix2 r k)
      = stLin' sc cd w1 s1 (ix2 r k) * Ideal.logistic (stLin' sc cd w1 s1 (ix2 r k)) * stLin' sc cd w3 s3 (ix2 r k) := by
  pointwise [stH']

theorem ldW1'_at (c : ℕ) (i0) (k : Fin 192) (l : Fin 2560) (j : Fin 1728) (hj : j.val = c + k.val) : ldW1' harg6 x5 c i0 (ix2 k l) = x5 (ix2 j l) := by
  have hc : c + k.val < 1728 := hj ▸ j.isLt
  obtain rfl : j = ⟨c + k.val, hc⟩ := Fin.ext hj
  pointwise [Memref.IsWhole.readAt_unread]

theorem ldS1'_at (c : ℕ) (i0) (k : Fin 192) (j : Fin 1728) (hj : j.val = c + k.val) : ldS1' harg7 x6 c i0 (ix2 0 k) = x6 (ix2 0 j) := by
  have hc : c + k.val < 1728 := hj ▸ j.isLt
  obtain rfl : j = ⟨c + k.val, hc⟩ := Fin.ext hj
  pointwise [Memref.IsWhole.readAt_unread]

theorem stH'_at (c : ℕ) (p : Par) (a : ℕ → Fin 640 → EReal) (x : ℕ → Fin 2560 → EReal)
    (hp1 : p.w1 = fun j k => x5 (ix2 j k)) (hs1 : p.s1 = fun j => x6 (ix2 0 j)) (hp3 : p.w3 = fun j k => x7 (ix2 j k)) (hs3 : p.s3 = fun j => x8 (ix2 0 j))
    (sc : FVec Ideal S256x1 .f32) (cd : FVec Ideal S1x256x2560 .fp8e4m3)
    (hsc : ∀ r : Fin 256, sc (ix2 r 0) = rowScale (rowN p (a r.val) (x r.val)))
    (hcd : ∀ (r : Fin 256) k, cd (ix3 0 r k) = rowCodes (rowN p (a r.val) (x r.val)) k)
    (i0 i1 i2 i3) (r : Fin 256) (k : Fin 192) (l : Fin 1728) (hl : l.val = c + k.val) :
    stH' sc cd (ldW1' harg6 x5 c i0) (ldW1' harg8 x7 c i1) (ldS1' harg7 x6 c i2) (ldS1' harg9 x8 c i3) (ix2 r k)
      = rowH p (a r.val) (x r.val) l := by
  rw [stH'_read, stLin'_at sc cd (fun r => rowN p (a r) (x r)) hsc hcd _ _ r k (p.w1 l) (p.s1 l) (fun j => by rw [hp1, ldW1'_at harg6 x5 c i0 k j l hl]) (by rw [hs1, ldS1'_at harg7 x6 c i2 k l hl]),
    stLin'_at sc cd (fun r => rowN p (a r) (x r)) hsc hcd _ _ r k (p.w3 l) (p.s3 l) (fun j => by rw [hp3, ldW1'_at harg8 x7 c i1 k j l hl]) (by rw [hs3, ldS1'_at harg9 x8 c i3 k l hl])]
  rfl

/-- A 256-column chunk of the rows after the MLP branch. -/
def stO (sc : FVec Ideal S256x1 .f32) (hc : FVec Ideal S256x1728 .fp8e4m3) (w : FVec Ideal S1728x256 .fp8e4m3) (s : FVec Ideal S1x256 .f32)
    (y : FVec Ideal S256x256 .f32) (g : FVec Ideal S1x1x256 .f32) : FVec Ideal S1x256x256 .bf16 :=
  shapeCast S1x256x256 (truncf .bf16 (addf y (mulf (broadcastTo S256x256 (shapeCast S1x256 g shapeCasts_S1x1x256_S1x256) broadcasts_S1x256_S256x256)
    (mulf (mulf (matmul dot_S256x1728_S1728x256_S256x256_1_0_0_1_n_n none hc w (constant S256x256 .f32 0x00000000#32))
      (broadcastTo S256x256 sc broadcasts_S256x1_S256x256)) (broadcastTo S256x256 (shapeCast S1x256 s shapeCasts_S1x256_S1x256) broadcasts_S1x256_S256x256))))
    bitsLt_bf16_f32) shapeCasts_S256x256_S1x256x256

theorem stO_at (b c : ℕ) (sc : FVec Ideal S256x1 .f32) (hc : FVec Ideal S256x1728 .fp8e4m3) (y : Vec Ideal S256x256 .f32)
    (hsc : ∀ r : Fin 256, sc (ix2 r 0) = rowScale (rowH (par x2 x3 x4 x5 x6 x7 x8 x9 x10 b) (arow x0 b r.val) (xrow x1 b r.val)))
    (hcd : ∀ (r : Fin 256) k, hc (ix2 r k) = rowCodes (rowH (par x2 x3 x4 x5 x6 x7 x8 x9 x10 b) (arow x0 b r.val) (xrow x1 b r.val)) k)
    (i0 i1 i3) (r k : Fin 256) (l : Fin 2560) (hl : l.val = c + k.val)
    (hy : y (ix2 r k) = rowY (par x2 x3 x4 x5 x6 x7 x8 x9 x10 b) (arow x0 b r.val) (xrow x1 b r.val) l) :
    stO sc hc (ldW2 harg10 x9 c i0) (ldSo harg11 x10 c i1) y (ldM harg3 x2 5 b c i3) (ix3 0 r k)
      = rowO (par x2 x3 x4 x5 x6 x7 x8 x9 x10 b) (arow x0 b r.val) (xrow x1 b r.val) l := by
  have hb : b < 2 := by have := i3 1; simp at this; omega
  have hc : c + k.val < 2560 := hl ▸ l.isLt
  obtain rfl : l = ⟨c + k.val, hc⟩ := Fin.ext hl
  have e : (par x2 x3 x4 x5 x6 x7 x8 x9 x10 b).gate2 ⟨c + k.val, hc⟩ = x2 (ix3 5 ⟨b, hb⟩ ⟨c + k.val, hc⟩) := dif_pos hb
  simp only [rowO, e]
  pointwise [stO, Memref.IsWhole.readAt_unread]
  simp only [hsc, hcd, hy]
  rfl

end

end Cert.KernelIdeal.Tail

end
-- ==== Proof.Steps.lean ====
/- The steps over 32 rows: their scales and codes at an index. -/
module

public import proofs.«01_k».proof.Proof.Stages

@[expose] public section

set_option maxRecDepth 16384
set_option maxHeartbeats 4000000

noncomputable section

namespace Cert.KernelIdeal.Tail

open Cert.KernelIdeal.Gen Cert.Tail
open Idealize.ShloMosaic Idealize.ShloMosaic.TcCoe Idealize.ShloMosaic.Tactic

theorem at_eq {α β : Type} {v : α → β} (v' : α → β) (e : v = v') {y : α} {t : β} (h : v' y = t) : v y = t := e ▸ h

/-- 32 attention rows, the five heads side by side. -/
def aB {arg1 : Memref sig .tc .vmem S2x5x256x128 .f32} (harg1 : arg1.IsWhole) (x0 : Vec Ideal S2x5x256x128 .f32) (b o : ℕ) (hb : b < 2) (ho : o + 32 ≤ 256) :
    FVec Ideal S32x640 .f32 :=
  have inb (h : ℕ) (hh : h < 5) : ∀ a : Fin 4, (![b, h, o, 0] : Fin 4 → ℕ) a + S1x1x32x128.size a ≤ S2x5x256x128.size a := by
    intro a; fin_cases a
    · show b + 1 ≤ 2; omega
    · show h + 1 ≤ 5; omega
    · exact ho
    · exact le_refl 128
  k0_pay2 (F := Ideal) (ldA harg1 x0 b 0 o (inb 0 (by omega))) (ldA harg1 x0 b 1 o (inb 1 (by omega))) (ldA harg1 x0 b 2 o (inb 2 (by omega)))
    (ldA harg1 x0 b 3 o (inb 3 (by omega))) (ldA harg1 x0 b 4 o (inb 4 (by omega)))

theorem aB_at {arg1 : Memref sig .tc .vmem S2x5x256x128 .f32} (harg1 : arg1.IsWhole) (x0 : Vec Ideal S2x5x256x128 .f32) (b o : ℕ) (hb : b < 2) (ho : o + 32 ≤ 256)
    (r : Fin 32) (k : Fin 640) : aB harg1 x0 b o hb ho (ix2 r k) = arow x0 b (o + r.val) k :=
  cat_at harg1 x0 b o _ _ _ _ _ r k

theorem aScale_at {arg1 : Memref sig .tc .vmem S2x5x256x128 .f32} (harg1 : arg1.IsWhole) (x0 : Vec Ideal S2x5x256x128 .f32) (b : ℕ) (hb : b < 2) (r : Fin 256) :
    k0_pay50 (F := Ideal) (stScale640 (aB harg1 x0 b 0 hb (by decide))) (stScale640 (aB harg1 x0 b 32 hb (by decide))) (stScale640 (aB harg1 x0 b 64 hb (by decide)))
      (stScale640 (aB harg1 x0 b 96 hb (by decide))) (stScale640 (aB harg1 x0 b 128 hb (by decide))) (stScale640 (aB harg1 x0 b 160 hb (by decide)))
      (stScale640 (aB harg1 x0 b 192 hb (by decide))) (stScale640 (aB harg1 x0 b 224 hb (by decide))) (ix2 r 0) = rowScale (arow x0 b r.val) :=
  cat8_at _ _ _ _ _ _ _ _ (fun r => rowScale (arow x0 b r))
    (fun r => stScale640_at _ r _ (aB_at harg1 x0 b 0 hb _ r)) (fun r => stScale640_at _ r _ (aB_at harg1 x0 b 32 hb _ r))
    (fun r => stScale640_at _ r _ (aB_at harg1 x0 b 64 hb _ r)) (fun r => stScale640_at _ r _ (aB_at harg1 x0 b 96 hb _ r))
    (fun r => stScale640_at _ r _ (aB_at harg1 x0 b 128 hb _ r)) (fun r => stScale640_at _ r _ (aB_at harg1 x0 b 160 hb _ r))
    (fun r => stScale640_at _ r _ (aB_at harg1 x0 b 192 hb _ r)) (fun r => stScale640_at _ r _ (aB_at harg1 x0 b 224 hb _ r)) r

/-- The stored codes of 32 attention rows. -/
def pcA (v : FVec Ideal S32x640 .f32) : FVec Ideal S1x32x640 .fp8e4m3 := shapeCast S1x32x640 (stCodes640 v (stScale640 v)) shapeCasts_S32x640_S1x32x640

theorem pcA_at {arg1 : Memref sig .tc .vmem S2x5x256x128 .f32} (harg1 : arg1.IsWhole) (x0 : Vec Ideal S2x5x256x128 .f32) (b o : ℕ) (hb : b < 2) (ho : o + 32 ≤ 256)
    (r : Fin 32) (k : Fin 640) (B R : ℕ) (K : Fin 640) (eb : B = b) (er : R = o + r.val) (ek : K.val = 0 + k.val) :
    pcA (aB harg1 x0 b o hb ho) (ix3 0 r k) = rowCodes (arow x0 B R) K := by
  obtain rfl : K = k := Fin.ext (by omega)
  subst eb; subst er
  have e : pcA (aB harg1 x0 B o hb ho) (ix3 0 r K) = stCodes640 (aB harg1 x0 B o hb ho) (stScale640 (aB harg1 x0 B o hb ho)) (ix2 r K) := by pointwise [pcA]
  rw [e]
  exact stCodes640_at _ _ r _ (aB_at harg1 x0 B o hb ho r) (stScale640_at _ r _ (aB_at harg1 x0 B o hb ho r)) K

/-- The stored attention rows. -/
theorem pcAtt_at {arg1 : Memref sig .tc .vmem S2x5x256x128 .f32} (harg1 : arg1.IsWhole) (x0 : Vec Ideal S2x5x256x128 .f32) (b o : ℕ) (hb : b < 2) (ho : o + 32 ≤ 256)
    (r : Fin 32) (k : Fin 640) (B R : ℕ) (K : Fin 640) (eb : B = b) (er : R = o + r.val) (ek : K.val = 0 + k.val) :
    k0_pay5 (F := Ideal) (aB harg1 x0 b o hb ho) (ix3 0 r k) = arow x0 B R K := by
  obtain rfl : K = k := Fin.ext (by omega)
  subst eb; subst er
  have e : k0_pay5 (F := Ideal) (aB harg1 x0 B o hb ho) (ix3 0 r K) = aB harg1 x0 B o hb ho (ix2 r K) := by pointwise [k0_pay5]
  rw [e]
  exact aB_at harg1 x0 B o hb ho r K

/-- The stored codes of 32 normed rows. -/
def pcN (v : FVec Ideal S32x2560 .f32) : FVec Ideal S1x32x2560 .fp8e4m3 := shapeCast S1x32x2560 (stCodes2560 v (stScale2560 v)) shapeCasts_S32x2560_S1x32x2560

theorem pcN_at (v : FVec Ideal S32x2560 .f32) (r : Fin 32) (f : Fin 2560 → EReal) (h : ∀ k, v (ix2 r k) = f k) (k K : Fin 2560) (ek : K.val = 0 + k.val) :
    pcN v (ix3 0 r k) = rowCodes f K := by
  obtain rfl : K = k := Fin.ext (by omega)
  have e : pcN v (ix3 0 r K) = stCodes2560 v (stScale2560 v) (ix2 r K) := by pointwise [pcN]
  rw [e]
  exact stCodes2560_at _ _ r _ h (stScale2560_at _ r _ h) K

/-- The stored codes of 32 hidden rows. -/
def pcH (v : FVec Ideal S32x1728 .f32) : FVec Ideal S32x1728 .fp8e4m3 := shapeCast S32x1728 (stCodes1728 v (stScale1728 v)) shapeCasts_S32x1728_S32x1728

theorem pcH_at (v : FVec Ideal S32x1728 .f32) (r : Fin 32) (f : Fin 1728 → EReal) (h : ∀ k, v (ix2 r k) = f k) (k K : Fin 1728) (ek : K.val = 0 + k.val) :
    pcH v (ix2 r k) = rowCodes f K := by
  obtain rfl : K = k := Fin.ext (by omega)
  have e : pcH v (ix2 r K) = stCodes1728 v (stScale1728 v) (ix2 r K) := by pointwise [pcH]
  rw [e]
  exact stCodes1728_at _ _ r _ h (stScale1728_at _ r _ h) K

/-- The hidden codes stored transposed. -/
theorem pcT_at (v : FVec Ideal S256x1728 .fp8e4m3) (k : Fin 1728) (r : Fin 256) : k0_pay140 (F := Ideal) v (ix3 0 k r) = v (ix2 r k) := by
  pointwise [k0_pay140]

end Cert.KernelIdeal.Tail

end
-- ==== Proof.PieceKit.lean ====
/- Stored pieces and loads read at plain coordinates: what a list of pieces holds at an element, one piece at a time from the
   newest, and what a load through a box of such a buffer reads. -/
module

public import Idealize.ShloMosaic.Lib.Pointwise
public import Idealize.ShloMosaic.Lib.WholeRead
public import Idealize.ShloMosaic.Lib.Pipeline.FrameBody
public import Idealize.ShloMosaic.Lib.Pipeline.ValueKit.Geometry

@[expose] public section

noncomputable section

namespace Cert.Tail

open Idealize.ShloMosaic

variable {Val : EltTy → Type} [∀ e, Nonempty (Val e)] {e : EltTy}

theorem mem_unit {s : Shape} (off size : Fin s.rank → ℕ) (inb) (y : s.Idx) (h : ∀ a, off a ≤ (y a).val ∧ (y a).val < off a + size a) :
    ∃ x, (Rect.unit off size inb).emb x = y := by
  refine ⟨fun a => ⟨(y a).val - off a, by have := h a; show _ < size a; omega⟩, funext fun a => Fin.ext ?_⟩
  rw [ValueKit.rect_emb_unit_val]
  have := h a
  show off a + ((y a).val - off a) = _
  omega

/-- A buffer of rank 2 at an element: the newest piece holds it, or the older pieces tell. -/
theorem step2 {n0 n1 : ℕ} (o0 o1 m0 m1 : ℕ) {inb} {v : (⟨2, ![m0, m1]⟩ : Shape).Idx → Val e} {L : List (View.Piece Val ⟨2, ![n0, n1]⟩ e)}
    {r : Fin n0} {k : Fin n1} {t : Val e}
    (h : ∀ (i : Fin m0) (j : Fin m1), r.val = o0 + i.val → k.val = o1 + j.val → v (ix2 i j) = t)
    (rest : ¬(o0 ≤ r.val ∧ r.val < o0 + m0 ∧ o1 ≤ k.val ∧ k.val < o1 + m1) → View.canon L (ix2 r k) = t) :
    View.canon (⟨Rect.unit (s := ⟨2, ![n0, n1]⟩) ![o0, o1] (⟨2, ![m0, m1]⟩ : Shape).size inb, v⟩ :: L) (ix2 r k) = t := by
  by_cases hm : o0 ≤ r.val ∧ r.val < o0 + m0 ∧ o1 ≤ k.val ∧ k.val < o1 + m1
  · obtain ⟨x, hx⟩ := mem_unit (s := ⟨2, ![n0, n1]⟩) ![o0, o1] (⟨2, ![m0, m1]⟩ : Shape).size inb (ix2 r k)
      (by intro a; fin_cases a; exact ⟨hm.1, hm.2.1⟩; exact hm.2.2)
    have h0 := ValueKit.rect_emb_unit_val (s := ⟨2, ![n0, n1]⟩) ![o0, o1] (⟨2, ![m0, m1]⟩ : Shape).size inb x 0
    have h1 := ValueKit.rect_emb_unit_val (s := ⟨2, ![n0, n1]⟩) ![o0, o1] (⟨2, ![m0, m1]⟩ : Shape).size inb x 1
    rw [hx] at h0 h1
    obtain ⟨i, j, rfl⟩ : ∃ (i : Fin m0) (j : Fin m1), x = ix2 i j := ⟨x 0, x 1, by funext a; fin_cases a <;> rfl⟩
    rw [← hx, View.canon_cons_emb]
    exact h i j h0 h1
  · rw [View.canon_cons_of_not_mem _ _ (by
      intro hy
      obtain ⟨x, hx⟩ := (Rect.unit (s := ⟨2, ![n0, n1]⟩) ![o0, o1] (⟨2, ![m0, m1]⟩ : Shape).size inb).exists_idx_of_mem hy
      have h0 := ValueKit.rect_emb_unit_val (s := ⟨2, ![n0, n1]⟩) ![o0, o1] (⟨2, ![m0, m1]⟩ : Shape).size inb x 0
      have h1 := ValueKit.rect_emb_unit_val (s := ⟨2, ![n0, n1]⟩) ![o0, o1] (⟨2, ![m0, m1]⟩ : Shape).size inb x 1
      rw [show (Rect.unit (s := ⟨2, ![n0, n1]⟩) ![o0, o1] (⟨2, ![m0, m1]⟩ : Shape).size inb).emb x = ix2 r k from hx] at h0 h1
      have e0 : r.val = o0 + (x 0).val := h0
      have e1 : k.val = o1 + (x 1).val := h1
      have b0 : (x 0).val < m0 := (x 0).isLt
      have b1 : (x 1).val < m1 := (x 1).isLt
      omega)]
    exact rest hm

/-- The same for a buffer of rank 3 whose pieces are one thick along the first axis. -/
theorem step3 {n0 n1 n2 : ℕ} (o0 o1 o2 m1 m2 : ℕ) {inb} {v : (⟨3, ![1, m1, m2]⟩ : Shape).Idx → Val e} {L : List (View.Piece Val ⟨3, ![n0, n1, n2]⟩ e)}
    {b : Fin n0} {r : Fin n1} {k : Fin n2} {t : Val e}
    (h : ∀ (i : Fin m1) (j : Fin m2), b.val = o0 → r.val = o1 + i.val → k.val = o2 + j.val → v (ix3 0 i j) = t)
    (rest : ¬(b.val = o0 ∧ o1 ≤ r.val ∧ r.val < o1 + m1 ∧ o2 ≤ k.val ∧ k.val < o2 + m2) → View.canon L (ix3 b r k) = t) :
    View.canon (⟨Rect.unit (s := ⟨3, ![n0, n1, n2]⟩) ![o0, o1, o2] (⟨3, ![1, m1, m2]⟩ : Shape).size inb, v⟩ :: L) (ix3 b r k) = t := by
  by_cases hm : b.val = o0 ∧ o1 ≤ r.val ∧ r.val < o1 + m1 ∧ o2 ≤ k.val ∧ k.val < o2 + m2
  · obtain ⟨x, hx⟩ := mem_unit (s := ⟨3, ![n0, n1, n2]⟩) ![o0, o1, o2] (⟨3, ![1, m1, m2]⟩ : Shape).size inb (ix3 b r k)
      (by intro a; fin_cases a; exact ⟨hm.1.ge, show b.val < o0 + 1 by omega⟩; exact ⟨hm.2.1, hm.2.2.1⟩; exact hm.2.2.2)
    have h1 := ValueKit.rect_emb_unit_val (s := ⟨3, ![n0, n1, n2]⟩) ![o0, o1, o2] (⟨3, ![1, m1, m2]⟩ : Shape).size inb x 1
    have h2 := ValueKit.rect_emb_unit_val (s := ⟨3, ![n0, n1, n2]⟩) ![o0, o1, o2] (⟨3, ![1, m1, m2]⟩ : Shape).size inb x 2
    rw [hx] at h1 h2
    obtain ⟨q, i, j, rfl⟩ : ∃ (q : Fin 1) (i : Fin m1) (j : Fin m2), x = ix3 q i j := ⟨x 0, x 1, x 2, by funext a; fin_cases a <;> rfl⟩
    obtain rfl : q = 0 := Subsingleton.elim _ _
    rw [← hx, View.canon_cons_emb]
    exact h i j hm.1 h1 h2
  · rw [View.canon_cons_of_not_mem _ _ (by
      intro hy
      obtain ⟨x, hx⟩ := (Rect.unit (s := ⟨3, ![n0, n1, n2]⟩) ![o0, o1, o2] (⟨3, ![1, m1, m2]⟩ : Shape).size inb).exists_idx_of_mem hy
      have h0 := ValueKit.rect_emb_unit_val (s := ⟨3, ![n0, n1, n2]⟩) ![o0, o1, o2] (⟨3, ![1, m1, m2]⟩ : Shape).size inb x 0
      have h1 := ValueKit.rect_emb_unit_val (s := ⟨3, ![n0, n1, n2]⟩) ![o0, o1, o2] (⟨3, ![1, m1, m2]⟩ : Shape).size inb x 1
      have h2 := ValueKit.rect_emb_unit_val (s := ⟨3, ![n0, n1, n2]⟩) ![o0, o1, o2] (⟨3, ![1, m1, m2]⟩ : Shape).size inb x 2
      rw [show (Rect.unit (s := ⟨3, ![n0, n1, n2]⟩) ![o0, o1, o2] (⟨3, ![1, m1, m2]⟩ : Shape).size inb).emb x = ix3 b r k from hx] at h0 h1 h2
      have e0 : b.val = o0 + (x 0).val := h0
      have e1 : r.val = o1 + (x 1).val := h1
      have e2 : k.val = o2 + (x 2).val := h2
      have b0 : (x 0).val < 1 := (x 0).isLt
      have b1 : (x 1).val < m1 := (x 1).isLt
      have b2 : (x 2).val < m2 := (x 2).isLt
      omega)]
    exact rest hm

/-- A load's element of a buffer of pieces, rank 2. -/
theorem read2 {sig : RefSig} {κ : Kind} {sp : Space} {n0 n1 : ℕ} {V : View sig κ sp ⟨2, ![n0, n1]⟩ e} {L : List (View.Piece Val ⟨2, ![n0, n1]⟩ e)}
    (o0 o1 m0 m1 : ℕ) {inb} {i : Fin m0} {j : Fin m1} {t : Val e}
    (h : ∀ (r : Fin n0) (k : Fin n1), r.val = o0 + i.val → k.val = o1 + j.val → View.canon L (ix2 r k) = t) :
    V.readCov L (Rect.unit (s := ⟨2, ![n0, n1]⟩) ![o0, o1] (⟨2, ![m0, m1]⟩ : Shape).size inb).toLoadRect (ix2 i j) = t := by
  rw [View.readCov_eq_canon']
  have h0 := ValueKit.rect_emb_unit_val (s := ⟨2, ![n0, n1]⟩) ![o0, o1] (⟨2, ![m0, m1]⟩ : Shape).size inb (ix2 i j) 0
  have h1 := ValueKit.rect_emb_unit_val (s := ⟨2, ![n0, n1]⟩) ![o0, o1] (⟨2, ![m0, m1]⟩ : Shape).size inb (ix2 i j) 1
  obtain ⟨r, k, hy⟩ : ∃ (r : Fin n0) (k : Fin n1), (Rect.unit (s := ⟨2, ![n0, n1]⟩) ![o0, o1] (⟨2, ![m0, m1]⟩ : Shape).size inb).emb (ix2 i j) = ix2 r k :=
    ⟨_, _, by funext a; fin_cases a; exact (rfl : _ = (Rect.unit (s := ⟨2, ![n0, n1]⟩) ![o0, o1] (⟨2, ![m0, m1]⟩ : Shape).size inb).emb (ix2 i j) 0)
              exact (rfl : _ = (Rect.unit (s := ⟨2, ![n0, n1]⟩) ![o0, o1] (⟨2, ![m0, m1]⟩ : Shape).size inb).emb (ix2 i j) 1)⟩
  rw [hy] at h0 h1
  exact (congrArg (View.canon L) hy).trans (h r k h0 h1)

/-- A load's element of a buffer of pieces, rank 3, one thick along the first axis. -/
theorem read3 {sig : RefSig} {κ : Kind} {sp : Space} {n0 n1 n2 : ℕ} {V : View sig κ sp ⟨3, ![n0, n1, n2]⟩ e} {L : List (View.Piece Val ⟨3, ![n0, n1, n2]⟩ e)}
    (o0 o1 o2 m1 m2 : ℕ) {inb} {i : Fin m1} {j : Fin m2} {t : Val e}
    (h : ∀ (b : Fin n0) (r : Fin n1) (k : Fin n2), b.val = o0 → r.val = o1 + i.val → k.val = o2 + j.val → View.canon L (ix3 b r k) = t) :
    V.readCov L (Rect.unit (s := ⟨3, ![n0, n1, n2]⟩) ![o0, o1, o2] (⟨3, ![1, m1, m2]⟩ : Shape).size inb).toLoadRect (ix3 0 i j) = t := by
  rw [View.readCov_eq_canon']
  have h0 := ValueKit.rect_emb_unit_val (s := ⟨3, ![n0, n1, n2]⟩) ![o0, o1, o2] (⟨3, ![1, m1, m2]⟩ : Shape).size inb (ix3 0 i j) 0
  have h1 := ValueKit.rect_emb_unit_val (s := ⟨3, ![n0, n1, n2]⟩) ![o0, o1, o2] (⟨3, ![1, m1, m2]⟩ : Shape).size inb (ix3 0 i j) 1
  have h2 := ValueKit.rect_emb_unit_val (s := ⟨3, ![n0, n1, n2]⟩) ![o0, o1, o2] (⟨3, ![1, m1, m2]⟩ : Shape).size inb (ix3 0 i j) 2
  obtain ⟨b, r, k, hy⟩ : ∃ (b : Fin n0) (r : Fin n1) (k : Fin n2),
      (Rect.unit (s := ⟨3, ![n0, n1, n2]⟩) ![o0, o1, o2] (⟨3, ![1, m1, m2]⟩ : Shape).size inb).emb (ix3 0 i j) = ix3 b r k :=
    ⟨_, _, _, by funext a; fin_cases a; exact (rfl : _ = (Rect.unit (s := ⟨3, ![n0, n1, n2]⟩) ![o0, o1, o2] (⟨3, ![1, m1, m2]⟩ : Shape).size inb).emb (ix3 0 i j) 0)
                 exact (rfl : _ = (Rect.unit (s := ⟨3, ![n0, n1, n2]⟩) ![o0, o1, o2] (⟨3, ![1, m1, m2]⟩ : Shape).size inb).emb (ix3 0 i j) 1)
                 exact (rfl : _ = (Rect.unit (s := ⟨3, ![n0, n1, n2]⟩) ![o0, o1, o2] (⟨3, ![1, m1, m2]⟩ : Shape).size inb).emb (ix3 0 i j) 2)⟩
  rw [hy] at h0 h1 h2
  exact (congrArg (View.canon L) hy).trans (h b r k h0 h1 h2)

end Cert.Tail

end
-- ==== Proof.ValueAtt.lean ====
/- The attention rows' scales and codes as the body names them, at an index. -/
module

public import proofs.«01_k».proof.Proof.IdealNamed
public import proofs.«01_k».proof.Proof.Steps
public import proofs.«01_k».proof.Proof.PieceKit

@[expose] public section

set_option maxRecDepth 16384
set_option maxHeartbeats 4000000

noncomputable section

namespace Cert.KernelIdeal.Tail

open Cert.KernelIdeal.Gen Cert.Tail
open Idealize.ShloMosaic Idealize.ShloMosaic.TcCoe Idealize.ShloMosaic.Tactic

theorem sa0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) : namedRun.sl.r_27 (F := Ideal) c arg1 harg1 x0 (ix2 r 0) = rowScale (arow x0 0 r.val) := by
  refine at_eq (k0_pay50 (F := Ideal) (stScale640 (aB harg1 x0 0 0 (by decide) (by decide))) (stScale640 (aB harg1 x0 0 32 (by decide) (by decide))) (stScale640 (aB harg1 x0 0 64 (by decide) (by decide))) (stScale640 (aB harg1 x0 0 96 (by decide) (by decide))) (stScale640 (aB harg1 x0 0 128 (by decide) (by decide))) (stScale640 (aB harg1 x0 0 160 (by decide) (by decide))) (stScale640 (aB harg1 x0 0 192 (by decide) (by decide))) (stScale640 (aB harg1 x0 0 224 (by decide) (by decide)))) ?_ (aScale_at harg1 x0 0 (by decide) r)
  rfl

theorem sa1 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) : namedRun.sl.r_109 (F := Ideal) c arg1 harg1 x0 (ix2 r 0) = rowScale (arow x0 1 r.val) := by
  refine at_eq (k0_pay50 (F := Ideal) (stScale640 (aB harg1 x0 1 0 (by decide) (by decide))) (stScale640 (aB harg1 x0 1 32 (by decide) (by decide))) (stScale640 (aB harg1 x0 1 64 (by decide) (by decide))) (stScale640 (aB harg1 x0 1 96 (by decide) (by decide))) (stScale640 (aB harg1 x0 1 128 (by decide) (by decide))) (stScale640 (aB harg1 x0 1 160 (by decide) (by decide))) (stScale640 (aB harg1 x0 1 192 (by decide) (by decide))) (stScale640 (aB harg1 x0 1 224 (by decide) (by decide)))) ?_ (aScale_at harg1 x0 1 (by decide) r)
  rfl

theorem c12_0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (b : Fin 2) (hb0 : b.val = 0) (r : Fin 256) (k : Fin 640) : View.canon (namedRun.sl.H12_8 (F := Ideal) c arg1 harg1 x0) (ix3 b r k) = rowCodes (arow x0 b.val r.val) k := by
  unfold namedRun.sl.H12_8
  refine step3 0 224 0 32 640 (fun i j hb hr hk => ?_) fun q0 => ?_
  · refine at_eq (pcA (aB harg1 x0 0 224 (by decide) (by decide))) ?_ (pcA_at harg1 x0 0 224 (by decide) (by decide) i j _ _ _ hb hr hk)
    rfl
  refine step3 0 192 0 32 640 (fun i j hb hr hk => ?_) fun q1 => ?_
  · refine at_eq (pcA (aB harg1 x0 0 192 (by decide) (by decide))) ?_ (pcA_at harg1 x0 0 192 (by decide) (by decide) i j _ _ _ hb hr hk)
    rfl
  refine step3 0 160 0 32 640 (fun i j hb hr hk => ?_) fun q2 => ?_
  · refine at_eq (pcA (aB harg1 x0 0 160 (by decide) (by decide))) ?_ (pcA_at harg1 x0 0 160 (by decide) (by decide) i j _ _ _ hb hr hk)
    rfl
  refine step3 0 128 0 32 640 (fun i j hb hr hk => ?_) fun q3 => ?_
  · refine at_eq (pcA (aB harg1 x0 0 128 (by decide) (by decide))) ?_ (pcA_at harg1 x0 0 128 (by decide) (by decide) i j _ _ _ hb hr hk)
    rfl
  refine step3 0 96 0 32 640 (fun i j hb hr hk => ?_) fun q4 => ?_
  · refine at_eq (pcA (aB harg1 x0 0 96 (by decide) (by decide))) ?_ (pcA_at harg1 x0 0 96 (by decide) (by decide) i j _ _ _ hb hr hk)
    rfl
  refine step3 0 64 0 32 640 (fun i j hb hr hk => ?_) fun q5 => ?_
  · refine at_eq (pcA (aB harg1 x0 0 64 (by decide) (by decide))) ?_ (pcA_at harg1 x0 0 64 (by decide) (by decide) i j _ _ _ hb hr hk)
    rfl
  refine step3 0 32 0 32 640 (fun i j hb hr hk => ?_) fun q6 => ?_
  · refine at_eq (pcA (aB harg1 x0 0 32 (by decide) (by decide))) ?_ (pcA_at harg1 x0 0 32 (by decide) (by decide) i j _ _ _ hb hr hk)
    rfl
  refine step3 0 0 0 32 640 (fun i j hb hr hk => ?_) fun q7 => ?_
  · refine at_eq (pcA (aB harg1 x0 0 0 (by decide) (by decide))) ?_ (pcA_at harg1 x0 0 0 (by decide) (by decide) i j _ _ _ hb hr hk)
    rfl
  omega

theorem c12_1 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (b : Fin 2) (r : Fin 256) (k : Fin 640) : View.canon (namedRun.sl.H12_16 (F := Ideal) c arg1 harg1 x0) (ix3 b r k) = rowCodes (arow x0 b.val r.val) k := by
  unfold namedRun.sl.H12_16 namedRun.sl.H12_8
  refine step3 1 224 0 32 640 (fun i j hb hr hk => ?_) fun q0 => ?_
  · refine at_eq (pcA (aB harg1 x0 1 224 (by decide) (by decide))) ?_ (pcA_at harg1 x0 1 224 (by decide) (by decide) i j _ _ _ hb hr hk)
    rfl
  refine step3 1 192 0 32 640 (fun i j hb hr hk => ?_) fun q1 => ?_
  · refine at_eq (pcA (aB harg1 x0 1 192 (by decide) (by decide))) ?_ (pcA_at harg1 x0 1 192 (by decide) (by decide) i j _ _ _ hb hr hk)
    rfl
  refine step3 1 160 0 32 640 (fun i j hb hr hk => ?_) fun q2 => ?_
  · refine at_eq (pcA (aB harg1 x0 1 160 (by decide) (by decide))) ?_ (pcA_at harg1 x0 1 160 (by decide) (by decide) i j _ _ _ hb hr hk)
    rfl
  refine step3 1 128 0 32 640 (fun i j hb hr hk => ?_) fun q3 => ?_
  · refine at_eq (pcA (aB harg1 x0 1 128 (by decide) (by decide))) ?_ (pcA_at harg1 x0 1 128 (by decide) (by decide) i j _ _ _ hb hr hk)
    rfl
  refine step3 1 96 0 32 640 (fun i j hb hr hk => ?_) fun q4 => ?_
  · refine at_eq (pcA (aB harg1 x0 1 96 (by decide) (by decide))) ?_ (pcA_at harg1 x0 1 96 (by decide) (by decide) i j _ _ _ hb hr hk)
    rfl
  refine step3 1 64 0 32 640 (fun i j hb hr hk => ?_) fun q5 => ?_
  · refine at_eq (pcA (aB harg1 x0 1 64 (by decide) (by decide))) ?_ (pcA_at harg1 x0 1 64 (by decide) (by decide) i j _ _ _ hb hr hk)
    rfl
  refine step3 1 32 0 32 640 (fun i j hb hr hk => ?_) fun q6 => ?_
  · refine at_eq (pcA (aB harg1 x0 1 32 (by decide) (by decide))) ?_ (pcA_at harg1 x0 1 32 (by decide) (by decide) i j _ _ _ hb hr hk)
    rfl
  refine step3 1 0 0 32 640 (fun i j hb hr hk => ?_) fun q7 => ?_
  · refine at_eq (pcA (aB harg1 x0 1 0 (by decide) (by decide))) ?_ (pcA_at harg1 x0 1 0 (by decide) (by decide) i j _ _ _ hb hr hk)
    rfl
  refine step3 0 224 0 32 640 (fun i j hb hr hk => ?_) fun q8 => ?_
  · refine at_eq (pcA (aB harg1 x0 0 224 (by decide) (by decide))) ?_ (pcA_at harg1 x0 0 224 (by decide) (by decide) i j _ _ _ hb hr hk)
    rfl
  refine step3 0 192 0 32 640 (fun i j hb hr hk => ?_) fun q9 => ?_
  · refine at_eq (pcA (aB harg1 x0 0 192 (by decide) (by decide))) ?_ (pcA_at harg1 x0 0 192 (by decide) (by decide) i j _ _ _ hb hr hk)
    rfl
  refine step3 0 160 0 32 640 (fun i j hb hr hk => ?_) fun q10 => ?_
  · refine at_eq (pcA (aB harg1 x0 0 160 (by decide) (by decide))) ?_ (pcA_at harg1 x0 0 160 (by decide) (by decide) i j _ _ _ hb hr hk)
    rfl
  refine step3 0 128 0 32 640 (fun i j hb hr hk => ?_) fun q11 => ?_
  · refine at_eq (pcA (aB harg1 x0 0 128 (by decide) (by decide))) ?_ (pcA_at harg1 x0 0 128 (by decide) (by decide) i j _ _ _ hb hr hk)
    rfl
  refine step3 0 96 0 32 640 (fun i j hb hr hk => ?_) fun q12 => ?_
  · refine at_eq (pcA (aB harg1 x0 0 96 (by decide) (by decide))) ?_ (pcA_at harg1 x0 0 96 (by decide) (by decide) i j _ _ _ hb hr hk)
    rfl
  refine step3 0 64 0 32 640 (fun i j hb hr hk => ?_) fun q13 => ?_
  · refine at_eq (pcA (aB harg1 x0 0 64 (by decide) (by decide))) ?_ (pcA_at harg1 x0 0 64 (by decide) (by decide) i j _ _ _ hb hr hk)
    rfl
  refine step3 0 32 0 32 640 (fun i j hb hr hk => ?_) fun q14 => ?_
  · refine at_eq (pcA (aB harg1 x0 0 32 (by decide) (by decide))) ?_ (pcA_at harg1 x0 0 32 (by decide) (by decide) i j _ _ _ hb hr hk)
    rfl
  refine step3 0 0 0 32 640 (fun i j hb hr hk => ?_) fun q15 => ?_
  · refine at_eq (pcA (aB harg1 x0 0 0 (by decide) (by decide))) ?_ (pcA_at harg1 x0 0 0 (by decide) (by decide) i j _ _ _ hb hr hk)
    rfl
  omega

theorem cd0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (k : Fin 640) : namedRun.sl.v278 (F := Ideal) c arg1 harg1 arg13 x0 (ix3 0 r k) = rowCodes (arow x0 0 r.val) k := by
  refine read3 0 0 0 256 640 fun b' r' k' hb hr hk => ?_
  rw [c12_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 b' hb r' k', hb, hr, show k' = k from Fin.ext (by omega), Nat.zero_add]

theorem cd1 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (k : Fin 640) : namedRun.sl.v1567 (F := Ideal) c arg1 harg1 arg13 x0 (ix3 0 r k) = rowCodes (arow x0 1 r.val) k := by
  refine read3 1 0 0 256 640 fun b' r' k' hb hr hk => ?_
  rw [c12_1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 b' r' k', hb, hr, show k' = k from Fin.ext (by omega), Nat.zero_add]

end Cert.KernelIdeal.Tail

end
-- ==== Proof.ValueY.lean ====
/- The rows after the attention branch as the body names them, at an index. -/
module

public import proofs.«01_k».proof.Proof.ValueAtt

@[expose] public section

set_option maxRecDepth 16384
set_option maxHeartbeats 4000000

noncomputable section

namespace Cert.KernelIdeal.Tail

open Cert.KernelIdeal.Gen Cert.Tail
open Idealize.ShloMosaic Idealize.ShloMosaic.TcCoe Idealize.ShloMosaic.Tactic

theorem y0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (k : Fin 2560) : View.canon (namedRun.sl.HS0_10 (F := Ideal) c arg1 harg1 arg2 harg2 arg3 harg3 arg4 harg4 arg5 harg5 arg13 x0 x1 x2 x3 x4) (ix2 r k) = rowY (par x2 x3 x4 x5 x6 x7 x8 x9 x10 0) (arow x0 0 r.val) (xrow x1 0 r.val) k := by
  unfold namedRun.sl.HS0_10
  refine step2 0 2304 256 256 (fun i j hr hk => ?_) fun q0 => ?_
  · refine at_eq (stY (namedRun.sl.r_27 (F := Ideal) c arg1 harg1 x0) (namedRun.sl.v278 (F := Ideal) c arg1 harg1 arg13 x0) (ldWo harg4 x3 2304 inb_S640x2560_S640x256_0_2304) (ldSo harg5 x4 2304 inb_S1x2560_S1x256_0_2304) (ldX harg2 x1 0 2304 inb_S2x256x2560_S1x256x256_0_0_2304) (ldM harg3 x2 2 0 2304 inb_S6x2x2560_S1x1x256_2_0_2304)) ?_ ?_
    · rfl
    obtain rfl : r = i := Fin.ext (by omega)
    exact stY_at (b := 0) (c := 2304) (hsc := sa0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 2048 256 256 (fun i j hr hk => ?_) fun q1 => ?_
  · refine at_eq (stY (namedRun.sl.r_27 (F := Ideal) c arg1 harg1 x0) (namedRun.sl.v278 (F := Ideal) c arg1 harg1 arg13 x0) (ldWo harg4 x3 2048 inb_S640x2560_S640x256_0_2048) (ldSo harg5 x4 2048 inb_S1x2560_S1x256_0_2048) (ldX harg2 x1 0 2048 inb_S2x256x2560_S1x256x256_0_0_2048) (ldM harg3 x2 2 0 2048 inb_S6x2x2560_S1x1x256_2_0_2048)) ?_ ?_
    · rfl
    obtain rfl : r = i := Fin.ext (by omega)
    exact stY_at (b := 0) (c := 2048) (hsc := sa0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 1792 256 256 (fun i j hr hk => ?_) fun q2 => ?_
  · refine at_eq (stY (namedRun.sl.r_27 (F := Ideal) c arg1 harg1 x0) (namedRun.sl.v278 (F := Ideal) c arg1 harg1 arg13 x0) (ldWo harg4 x3 1792 inb_S640x2560_S640x256_0_1792) (ldSo harg5 x4 1792 inb_S1x2560_S1x256_0_1792) (ldX harg2 x1 0 1792 inb_S2x256x2560_S1x256x256_0_0_1792) (ldM harg3 x2 2 0 1792 inb_S6x2x2560_S1x1x256_2_0_1792)) ?_ ?_
    · rfl
    obtain rfl : r = i := Fin.ext (by omega)
    exact stY_at (b := 0) (c := 1792) (hsc := sa0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 1536 256 256 (fun i j hr hk => ?_) fun q3 => ?_
  · refine at_eq (stY (namedRun.sl.r_27 (F := Ideal) c arg1 harg1 x0) (namedRun.sl.v278 (F := Ideal) c arg1 harg1 arg13 x0) (ldWo harg4 x3 1536 inb_S640x2560_S640x256_0_1536) (ldSo harg5 x4 1536 inb_S1x2560_S1x256_0_1536) (ldX harg2 x1 0 1536 inb_S2x256x2560_S1x256x256_0_0_1536) (ldM harg3 x2 2 0 1536 inb_S6x2x2560_S1x1x256_2_0_1536)) ?_ ?_
    · rfl
    obtain rfl : r = i := Fin.ext (by omega)
    exact stY_at (b := 0) (c := 1536) (hsc := sa0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 1280 256 256 (fun i j hr hk => ?_) fun q4 => ?_
  · refine at_eq (stY (namedRun.sl.r_27 (F := Ideal) c arg1 harg1 x0) (namedRun.sl.v278 (F := Ideal) c arg1 harg1 arg13 x0) (ldWo harg4 x3 1280 inb_S640x2560_S640x256_0_1280) (ldSo harg5 x4 1280 inb_S1x2560_S1x256_0_1280) (ldX harg2 x1 0 1280 inb_S2x256x2560_S1x256x256_0_0_1280) (ldM harg3 x2 2 0 1280 inb_S6x2x2560_S1x1x256_2_0_1280)) ?_ ?_
    · rfl
    obtain rfl : r = i := Fin.ext (by omega)
    exact stY_at (b := 0) (c := 1280) (hsc := sa0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 1024 256 256 (fun i j hr hk => ?_) fun q5 => ?_
  · refine at_eq (stY (namedRun.sl.r_27 (F := Ideal) c arg1 harg1 x0) (namedRun.sl.v278 (F := Ideal) c arg1 harg1 arg13 x0) (ldWo harg4 x3 1024 inb_S640x2560_S640x256_0_1024) (ldSo harg5 x4 1024 inb_S1x2560_S1x256_0_1024) (ldX harg2 x1 0 1024 inb_S2x256x2560_S1x256x256_0_0_1024) (ldM harg3 x2 2 0 1024 inb_S6x2x2560_S1x1x256_2_0_1024)) ?_ ?_
    · rfl
    obtain rfl : r = i := Fin.ext (by omega)
    exact stY_at (b := 0) (c := 1024) (hsc := sa0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 768 256 256 (fun i j hr hk => ?_) fun q6 => ?_
  · refine at_eq (stY (namedRun.sl.r_27 (F := Ideal) c arg1 harg1 x0) (namedRun.sl.v278 (F := Ideal) c arg1 harg1 arg13 x0) (ldWo harg4 x3 768 inb_S640x2560_S640x256_0_768) (ldSo harg5 x4 768 inb_S1x2560_S1x256_0_768) (ldX harg2 x1 0 768 inb_S2x256x2560_S1x256x256_0_0_768) (ldM harg3 x2 2 0 768 inb_S6x2x2560_S1x1x256_2_0_768)) ?_ ?_
    · rfl
    obtain rfl : r = i := Fin.ext (by omega)
    exact stY_at (b := 0) (c := 768) (hsc := sa0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 512 256 256 (fun i j hr hk => ?_) fun q7 => ?_
  · refine at_eq (stY (namedRun.sl.r_27 (F := Ideal) c arg1 harg1 x0) (namedRun.sl.v278 (F := Ideal) c arg1 harg1 arg13 x0) (ldWo harg4 x3 512 inb_S640x2560_S640x256_0_512) (ldSo harg5 x4 512 inb_S1x2560_S1x256_0_512) (ldX harg2 x1 0 512 inb_S2x256x2560_S1x256x256_0_0_512) (ldM harg3 x2 2 0 512 inb_S6x2x2560_S1x1x256_2_0_512)) ?_ ?_
    · rfl
    obtain rfl : r = i := Fin.ext (by omega)
    exact stY_at (b := 0) (c := 512) (hsc := sa0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 256 256 256 (fun i j hr hk => ?_) fun q8 => ?_
  · refine at_eq (stY (namedRun.sl.r_27 (F := Ideal) c arg1 harg1 x0) (namedRun.sl.v278 (F := Ideal) c arg1 harg1 arg13 x0) (ldWo harg4 x3 256 inb_S640x2560_S640x256_0_256) (ldSo harg5 x4 256 inb_S1x2560_S1x256_0_256) (ldX harg2 x1 0 256 inb_S2x256x2560_S1x256x256_0_0_256) (ldM harg3 x2 2 0 256 inb_S6x2x2560_S1x1x256_2_0_256)) ?_ ?_
    · rfl
    obtain rfl : r = i := Fin.ext (by omega)
    exact stY_at (b := 0) (c := 256) (hsc := sa0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 0 256 256 (fun i j hr hk => ?_) fun q9 => ?_
  · refine at_eq (stY (namedRun.sl.r_27 (F := Ideal) c arg1 harg1 x0) (namedRun.sl.v278 (F := Ideal) c arg1 harg1 arg13 x0) (ldWo harg4 x3 0 inb_S640x2560_S640x256_0_0) (ldSo harg5 x4 0 inb_S1x2560_S1x256_0_0) (ldX harg2 x1 0 0 inb_S2x256x2560_S1x256x256_0_0_0) (ldM harg3 x2 2 0 0 inb_S6x2x2560_S1x1x256_2_0_0)) ?_ ?_
    · rfl
    obtain rfl : r = i := Fin.ext (by omega)
    exact stY_at (b := 0) (c := 0) (hsc := sa0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  omega

theorem yr0_0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v474 (F := Ideal) c arg1 harg1 arg2 harg2 arg3 harg3 arg4 harg4 arg5 harg5 arg13 arg20 x0 x1 x2 x3 x4 (ix2 i k) = rowY (par x2 x3 x4 x5 x6 x7 x8 x9 x10 0) (arow x0 0 (0 + i.val)) (xrow x1 0 (0 + i.val)) k := by
  refine read2 0 0 32 2560 fun r' k' hr hk => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr0_32 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v510 (F := Ideal) c arg1 harg1 arg2 harg2 arg3 harg3 arg4 harg4 arg5 harg5 arg13 arg20 x0 x1 x2 x3 x4 (ix2 i k) = rowY (par x2 x3 x4 x5 x6 x7 x8 x9 x10 0) (arow x0 0 (32 + i.val)) (xrow x1 0 (32 + i.val)) k := by
  refine read2 32 0 32 2560 fun r' k' hr hk => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr0_64 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v546 (F := Ideal) c arg1 harg1 arg2 harg2 arg3 harg3 arg4 harg4 arg5 harg5 arg13 arg20 x0 x1 x2 x3 x4 (ix2 i k) = rowY (par x2 x3 x4 x5 x6 x7 x8 x9 x10 0) (arow x0 0 (64 + i.val)) (xrow x1 0 (64 + i.val)) k := by
  refine read2 64 0 32 2560 fun r' k' hr hk => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr0_96 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v582 (F := Ideal) c arg1 harg1 arg2 harg2 arg3 harg3 arg4 harg4 arg5 harg5 arg13 arg20 x0 x1 x2 x3 x4 (ix2 i k) = rowY (par x2 x3 x4 x5 x6 x7 x8 x9 x10 0) (arow x0 0 (96 + i.val)) (xrow x1 0 (96 + i.val)) k := by
  refine read2 96 0 32 2560 fun r' k' hr hk => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr0_128 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v618 (F := Ideal) c arg1 harg1 arg2 harg2 arg3 harg3 arg4 harg4 arg5 harg5 arg13 arg20 x0 x1 x2 x3 x4 (ix2 i k) = rowY (par x2 x3 x4 x5 x6 x7 x8 x9 x10 0) (arow x0 0 (128 + i.val)) (xrow x1 0 (128 + i.val)) k := by
  refine read2 128 0 32 2560 fun r' k' hr hk => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr0_160 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v654 (F := Ideal) c arg1 harg1 arg2 harg2 arg3 harg3 arg4 harg4 arg5 harg5 arg13 arg20 x0 x1 x2 x3 x4 (ix2 i k) = rowY (par x2 x3 x4 x5 x6 x7 x8 x9 x10 0) (arow x0 0 (160 + i.val)) (xrow x1 0 (160 + i.val)) k := by
  refine read2 160 0 32 2560 fun r' k' hr hk => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr0_192 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v690 (F := Ideal) c arg1 harg1 arg2 harg2 arg3 harg3 arg4 harg4 arg5 harg5 arg13 arg20 x0 x1 x2 x3 x4 (ix2 i k) = rowY (par x2 x3 x4 x5 x6 x7 x8 x9 x10 0) (arow x0 0 (192 + i.val)) (xrow x1 0 (192 + i.val)) k := by
  refine read2 192 0 32 2560 fun r' k' hr hk => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr0_224 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v726 (F := Ideal) c arg1 harg1 arg2 harg2 arg3 harg3 arg4 harg4 arg5 harg5 arg13 arg20 x0 x1 x2 x3 x4 (ix2 i k) = rowY (par x2 x3 x4 x5 x6 x7 x8 x9 x10 0) (arow x0 0 (224 + i.val)) (xrow x1 0 (224 + i.val)) k := by
  refine read2 224 0 32 2560 fun r' k' hr hk => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yc0_0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 0 + j.val) : namedRun.sl.v1117 (F := Ideal) c arg1 harg1 arg2 harg2 arg3 harg3 arg4 harg4 arg5 harg5 arg13 arg20 x0 x1 x2 x3 x4 (ix2 r j) = rowY (par x2 x3 x4 x5 x6 x7 x8 x9 x10 0) (arow x0 0 r.val) (xrow x1 0 r.val) k := by
  refine read2 0 0 256 256 fun r' k' hr hk' => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc0_256 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 256 + j.val) : namedRun.sl.v1135 (F := Ideal) c arg1 harg1 arg2 harg2 arg3 harg3 arg4 harg4 arg5 harg5 arg13 arg20 x0 x1 x2 x3 x4 (ix2 r j) = rowY (par x2 x3 x4 x5 x6 x7 x8 x9 x10 0) (arow x0 0 r.val) (xrow x1 0 r.val) k := by
  refine read2 0 256 256 256 fun r' k' hr hk' => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc0_512 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 512 + j.val) : namedRun.sl.v1153 (F := Ideal) c arg1 harg1 arg2 harg2 arg3 harg3 arg4 harg4 arg5 harg5 arg13 arg20 x0 x1 x2 x3 x4 (ix2 r j) = rowY (par x2 x3 x4 x5 x6 x7 x8 x9 x10 0) (arow x0 0 r.val) (xrow x1 0 r.val) k := by
  refine read2 0 512 256 256 fun r' k' hr hk' => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc0_768 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 768 + j.val) : namedRun.sl.v1171 (F := Ideal) c arg1 harg1 arg2 harg2 arg3 harg3 arg4 harg4 arg5 harg5 arg13 arg20 x0 x1 x2 x3 x4 (ix2 r j) = rowY (par x2 x3 x4 x5 x6 x7 x8 x9 x10 0) (arow x0 0 r.val) (xrow x1 0 r.val) k := by
  refine read2 0 768 256 256 fun r' k' hr hk' => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc0_1024 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 1024 + j.val) : namedRun.sl.v1189 (F := Ideal) c arg1 harg1 arg2 harg2 arg3 harg3 arg4 harg4 arg5 harg5 arg13 arg20 x0 x1 x2 x3 x4 (ix2 r j) = rowY (par x2 x3 x4 x5 x6 x7 x8 x9 x10 0) (arow x0 0 r.val) (xrow x1 0 r.val) k := by
  refine read2 0 1024 256 256 fun r' k' hr hk' => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc0_1280 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 1280 + j.val) : namedRun.sl.v1207 (F := Ideal) c arg1 harg1 arg2 harg2 arg3 harg3 arg4 harg4 arg5 harg5 arg13 arg20 x0 x1 x2 x3 x4 (ix2 r j) = rowY (par x2 x3 x4 x5 x6 x7 x8 x9 x10 0) (arow x0 0 r.val) (xrow x1 0 r.val) k := by
  refine read2 0 1280 256 256 fun r' k' hr hk' => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc0_1536 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 1536 + j.val) : namedRun.sl.v1225 (F := Ideal) c arg1 harg1 arg2 harg2 arg3 harg3 arg4 harg4 arg5 harg5 arg13 arg20 x0 x1 x2 x3 x4 (ix2 r j) = rowY (par x2 x3 x4 x5 x6 x7 x8 x9 x10 0) (arow x0 0 r.val) (xrow x1 0 r.val) k := by
  refine read2 0 1536 256 256 fun r' k' hr hk' => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc0_1792 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 1792 + j.val) : namedRun.sl.v1243 (F := Ideal) c arg1 harg1 arg2 harg2 arg3 harg3 arg4 harg4 arg5 harg5 arg13 arg20 x0 x1 x2 x3 x4 (ix2 r j) = rowY (par x2 x3 x4 x5 x6 x7 x8 x9 x10 0) (arow x0 0 r.val) (xrow x1 0 r.val) k := by
  refine read2 0 1792 256 256 fun r' k' hr hk' => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc0_2048 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 2048 + j.val) : namedRun.sl.v1261 (F := Ideal) c arg1 harg1 arg2 harg2 arg3 harg3 arg4 harg4 arg5 harg5 arg13 arg20 x0 x1 x2 x3 x4 (ix2 r j) = rowY (par x2 x3 x4 x5 x6 x7 x8 x9 x10 0) (arow x0 0 r.val) (xrow x1 0 r.val) k := by
  refine read2 0 2048 256 256 fun r' k' hr hk' => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc0_2304 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 2304 + j.val) : namedRun.sl.v1279 (F := Ideal) c arg1 harg1 arg2 harg2 arg3 harg3 arg4 harg4 arg5 harg5 arg13 arg20 x0 x1 x2 x3 x4 (ix2 r j) = rowY (par x2 x3 x4 x5 x6 x7 x8 x9 x10 0) (arow x0 0 r.val) (xrow x1 0 r.val) k := by
  refine read2 0 2304 256 256 fun r' k' hr hk' => ?_
  rw [y0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem y1 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (k : Fin 2560) : View.canon (namedRun.sl.HS0_20 (F := Ideal) c arg1 harg1 arg2 harg2 arg3 harg3 arg4 harg4 arg5 harg5 arg13 x0 x1 x2 x3 x4) (ix2 r k) = rowY (par x2 x3 x4 x5 x6 x7 x8 x9 x10 1) (arow x0 1 r.val) (xrow x1 1 r.val) k := by
  unfold namedRun.sl.HS0_20
  refine step2 0 2304 256 256 (fun i j hr hk => ?_) fun q0 => ?_
  · refine at_eq (stY (namedRun.sl.r_109 (F := Ideal) c arg1 harg1 x0) (namedRun.sl.v1567 (F := Ideal) c arg1 harg1 arg13 x0) (ldWo harg4 x3 2304 inb_S640x2560_S640x256_0_2304) (ldSo harg5 x4 2304 inb_S1x2560_S1x256_0_2304) (ldX harg2 x1 1 2304 inb_S2x256x2560_S1x256x256_1_0_2304) (ldM harg3 x2 2 1 2304 inb_S6x2x2560_S1x1x256_2_1_2304)) ?_ ?_
    · rfl
    obtain rfl : r = i := Fin.ext (by omega)
    exact stY_at (b := 1) (c := 2304) (hsc := sa1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 2048 256 256 (fun i j hr hk => ?_) fun q1 => ?_
  · refine at_eq (stY (namedRun.sl.r_109 (F := Ideal) c arg1 harg1 x0) (namedRun.sl.v1567 (F := Ideal) c arg1 harg1 arg13 x0) (ldWo harg4 x3 2048 inb_S640x2560_S640x256_0_2048) (ldSo harg5 x4 2048 inb_S1x2560_S1x256_0_2048) (ldX harg2 x1 1 2048 inb_S2x256x2560_S1x256x256_1_0_2048) (ldM harg3 x2 2 1 2048 inb_S6x2x2560_S1x1x256_2_1_2048)) ?_ ?_
    · rfl
    obtain rfl : r = i := Fin.ext (by omega)
    exact stY_at (b := 1) (c := 2048) (hsc := sa1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 1792 256 256 (fun i j hr hk => ?_) fun q2 => ?_
  · refine at_eq (stY (namedRun.sl.r_109 (F := Ideal) c arg1 harg1 x0) (namedRun.sl.v1567 (F := Ideal) c arg1 harg1 arg13 x0) (ldWo harg4 x3 1792 inb_S640x2560_S640x256_0_1792) (ldSo harg5 x4 1792 inb_S1x2560_S1x256_0_1792) (ldX harg2 x1 1 1792 inb_S2x256x2560_S1x256x256_1_0_1792) (ldM harg3 x2 2 1 1792 inb_S6x2x2560_S1x1x256_2_1_1792)) ?_ ?_
    · rfl
    obtain rfl : r = i := Fin.ext (by omega)
    exact stY_at (b := 1) (c := 1792) (hsc := sa1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 1536 256 256 (fun i j hr hk => ?_) fun q3 => ?_
  · refine at_eq (stY (namedRun.sl.r_109 (F := Ideal) c arg1 harg1 x0) (namedRun.sl.v1567 (F := Ideal) c arg1 harg1 arg13 x0) (ldWo harg4 x3 1536 inb_S640x2560_S640x256_0_1536) (ldSo harg5 x4 1536 inb_S1x2560_S1x256_0_1536) (ldX harg2 x1 1 1536 inb_S2x256x2560_S1x256x256_1_0_1536) (ldM harg3 x2 2 1 1536 inb_S6x2x2560_S1x1x256_2_1_1536)) ?_ ?_
    · rfl
    obtain rfl : r = i := Fin.ext (by omega)
    exact stY_at (b := 1) (c := 1536) (hsc := sa1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 1280 256 256 (fun i j hr hk => ?_) fun q4 => ?_
  · refine at_eq (stY (namedRun.sl.r_109 (F := Ideal) c arg1 harg1 x0) (namedRun.sl.v1567 (F := Ideal) c arg1 harg1 arg13 x0) (ldWo harg4 x3 1280 inb_S640x2560_S640x256_0_1280) (ldSo harg5 x4 1280 inb_S1x2560_S1x256_0_1280) (ldX harg2 x1 1 1280 inb_S2x256x2560_S1x256x256_1_0_1280) (ldM harg3 x2 2 1 1280 inb_S6x2x2560_S1x1x256_2_1_1280)) ?_ ?_
    · rfl
    obtain rfl : r = i := Fin.ext (by omega)
    exact stY_at (b := 1) (c := 1280) (hsc := sa1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 1024 256 256 (fun i j hr hk => ?_) fun q5 => ?_
  · refine at_eq (stY (namedRun.sl.r_109 (F := Ideal) c arg1 harg1 x0) (namedRun.sl.v1567 (F := Ideal) c arg1 harg1 arg13 x0) (ldWo harg4 x3 1024 inb_S640x2560_S640x256_0_1024) (ldSo harg5 x4 1024 inb_S1x2560_S1x256_0_1024) (ldX harg2 x1 1 1024 inb_S2x256x2560_S1x256x256_1_0_1024) (ldM harg3 x2 2 1 1024 inb_S6x2x2560_S1x1x256_2_1_1024)) ?_ ?_
    · rfl
    obtain rfl : r = i := Fin.ext (by omega)
    exact stY_at (b := 1) (c := 1024) (hsc := sa1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 768 256 256 (fun i j hr hk => ?_) fun q6 => ?_
  · refine at_eq (stY (namedRun.sl.r_109 (F := Ideal) c arg1 harg1 x0) (namedRun.sl.v1567 (F := Ideal) c arg1 harg1 arg13 x0) (ldWo harg4 x3 768 inb_S640x2560_S640x256_0_768) (ldSo harg5 x4 768 inb_S1x2560_S1x256_0_768) (ldX harg2 x1 1 768 inb_S2x256x2560_S1x256x256_1_0_768) (ldM harg3 x2 2 1 768 inb_S6x2x2560_S1x1x256_2_1_768)) ?_ ?_
    · rfl
    obtain rfl : r = i := Fin.ext (by omega)
    exact stY_at (b := 1) (c := 768) (hsc := sa1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 512 256 256 (fun i j hr hk => ?_) fun q7 => ?_
  · refine at_eq (stY (namedRun.sl.r_109 (F := Ideal) c arg1 harg1 x0) (namedRun.sl.v1567 (F := Ideal) c arg1 harg1 arg13 x0) (ldWo harg4 x3 512 inb_S640x2560_S640x256_0_512) (ldSo harg5 x4 512 inb_S1x2560_S1x256_0_512) (ldX harg2 x1 1 512 inb_S2x256x2560_S1x256x256_1_0_512) (ldM harg3 x2 2 1 512 inb_S6x2x2560_S1x1x256_2_1_512)) ?_ ?_
    · rfl
    obtain rfl : r = i := Fin.ext (by omega)
    exact stY_at (b := 1) (c := 512) (hsc := sa1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 256 256 256 (fun i j hr hk => ?_) fun q8 => ?_
  · refine at_eq (stY (namedRun.sl.r_109 (F := Ideal) c arg1 harg1 x0) (namedRun.sl.v1567 (F := Ideal) c arg1 harg1 arg13 x0) (ldWo harg4 x3 256 inb_S640x2560_S640x256_0_256) (ldSo harg5 x4 256 inb_S1x2560_S1x256_0_256) (ldX harg2 x1 1 256 inb_S2x256x2560_S1x256x256_1_0_256) (ldM harg3 x2 2 1 256 inb_S6x2x2560_S1x1x256_2_1_256)) ?_ ?_
    · rfl
    obtain rfl : r = i := Fin.ext (by omega)
    exact stY_at (b := 1) (c := 256) (hsc := sa1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 0 256 256 (fun i j hr hk => ?_) fun q9 => ?_
  · refine at_eq (stY (namedRun.sl.r_109 (F := Ideal) c arg1 harg1 x0) (namedRun.sl.v1567 (F := Ideal) c arg1 harg1 arg13 x0) (ldWo harg4 x3 0 inb_S640x2560_S640x256_0_0) (ldSo harg5 x4 0 inb_S1x2560_S1x256_0_0) (ldX harg2 x1 1 0 inb_S2x256x2560_S1x256x256_1_0_0) (ldM harg3 x2 2 1 0 inb_S6x2x2560_S1x1x256_2_1_0)) ?_ ?_
    · rfl
    obtain rfl : r = i := Fin.ext (by omega)
    exact stY_at (b := 1) (c := 0) (hsc := sa1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := cd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  omega

theorem yr1_0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v1763 (F := Ideal) c arg1 harg1 arg2 harg2 arg3 harg3 arg4 harg4 arg5 harg5 arg13 arg20 x0 x1 x2 x3 x4 (ix2 i k) = rowY (par x2 x3 x4 x5 x6 x7 x8 x9 x10 1) (arow x0 1 (0 + i.val)) (xrow x1 1 (0 + i.val)) k := by
  refine read2 0 0 32 2560 fun r' k' hr hk => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr1_32 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v1799 (F := Ideal) c arg1 harg1 arg2 harg2 arg3 harg3 arg4 harg4 arg5 harg5 arg13 arg20 x0 x1 x2 x3 x4 (ix2 i k) = rowY (par x2 x3 x4 x5 x6 x7 x8 x9 x10 1) (arow x0 1 (32 + i.val)) (xrow x1 1 (32 + i.val)) k := by
  refine read2 32 0 32 2560 fun r' k' hr hk => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr1_64 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v1835 (F := Ideal) c arg1 harg1 arg2 harg2 arg3 harg3 arg4 harg4 arg5 harg5 arg13 arg20 x0 x1 x2 x3 x4 (ix2 i k) = rowY (par x2 x3 x4 x5 x6 x7 x8 x9 x10 1) (arow x0 1 (64 + i.val)) (xrow x1 1 (64 + i.val)) k := by
  refine read2 64 0 32 2560 fun r' k' hr hk => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr1_96 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v1871 (F := Ideal) c arg1 harg1 arg2 harg2 arg3 harg3 arg4 harg4 arg5 harg5 arg13 arg20 x0 x1 x2 x3 x4 (ix2 i k) = rowY (par x2 x3 x4 x5 x6 x7 x8 x9 x10 1) (arow x0 1 (96 + i.val)) (xrow x1 1 (96 + i.val)) k := by
  refine read2 96 0 32 2560 fun r' k' hr hk => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr1_128 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v1907 (F := Ideal) c arg1 harg1 arg2 harg2 arg3 harg3 arg4 harg4 arg5 harg5 arg13 arg20 x0 x1 x2 x3 x4 (ix2 i k) = rowY (par x2 x3 x4 x5 x6 x7 x8 x9 x10 1) (arow x0 1 (128 + i.val)) (xrow x1 1 (128 + i.val)) k := by
  refine read2 128 0 32 2560 fun r' k' hr hk => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr1_160 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v1943 (F := Ideal) c arg1 harg1 arg2 harg2 arg3 harg3 arg4 harg4 arg5 harg5 arg13 arg20 x0 x1 x2 x3 x4 (ix2 i k) = rowY (par x2 x3 x4 x5 x6 x7 x8 x9 x10 1) (arow x0 1 (160 + i.val)) (xrow x1 1 (160 + i.val)) k := by
  refine read2 160 0 32 2560 fun r' k' hr hk => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr1_192 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v1979 (F := Ideal) c arg1 harg1 arg2 harg2 arg3 harg3 arg4 harg4 arg5 harg5 arg13 arg20 x0 x1 x2 x3 x4 (ix2 i k) = rowY (par x2 x3 x4 x5 x6 x7 x8 x9 x10 1) (arow x0 1 (192 + i.val)) (xrow x1 1 (192 + i.val)) k := by
  refine read2 192 0 32 2560 fun r' k' hr hk => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yr1_224 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : namedRun.sl.v2015 (F := Ideal) c arg1 harg1 arg2 harg2 arg3 harg3 arg4 harg4 arg5 harg5 arg13 arg20 x0 x1 x2 x3 x4 (ix2 i k) = rowY (par x2 x3 x4 x5 x6 x7 x8 x9 x10 1) (arow x0 1 (224 + i.val)) (xrow x1 1 (224 + i.val)) k := by
  refine read2 224 0 32 2560 fun r' k' hr hk => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem yc1_0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 0 + j.val) : namedRun.sl.v2406 (F := Ideal) c arg1 harg1 arg2 harg2 arg3 harg3 arg4 harg4 arg5 harg5 arg13 arg20 x0 x1 x2 x3 x4 (ix2 r j) = rowY (par x2 x3 x4 x5 x6 x7 x8 x9 x10 1) (arow x0 1 r.val) (xrow x1 1 r.val) k := by
  refine read2 0 0 256 256 fun r' k' hr hk' => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc1_256 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 256 + j.val) : namedRun.sl.v2424 (F := Ideal) c arg1 harg1 arg2 harg2 arg3 harg3 arg4 harg4 arg5 harg5 arg13 arg20 x0 x1 x2 x3 x4 (ix2 r j) = rowY (par x2 x3 x4 x5 x6 x7 x8 x9 x10 1) (arow x0 1 r.val) (xrow x1 1 r.val) k := by
  refine read2 0 256 256 256 fun r' k' hr hk' => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc1_512 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 512 + j.val) : namedRun.sl.v2442 (F := Ideal) c arg1 harg1 arg2 harg2 arg3 harg3 arg4 harg4 arg5 harg5 arg13 arg20 x0 x1 x2 x3 x4 (ix2 r j) = rowY (par x2 x3 x4 x5 x6 x7 x8 x9 x10 1) (arow x0 1 r.val) (xrow x1 1 r.val) k := by
  refine read2 0 512 256 256 fun r' k' hr hk' => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc1_768 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 768 + j.val) : namedRun.sl.v2460 (F := Ideal) c arg1 harg1 arg2 harg2 arg3 harg3 arg4 harg4 arg5 harg5 arg13 arg20 x0 x1 x2 x3 x4 (ix2 r j) = rowY (par x2 x3 x4 x5 x6 x7 x8 x9 x10 1) (arow x0 1 r.val) (xrow x1 1 r.val) k := by
  refine read2 0 768 256 256 fun r' k' hr hk' => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc1_1024 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 1024 + j.val) : namedRun.sl.v2478 (F := Ideal) c arg1 harg1 arg2 harg2 arg3 harg3 arg4 harg4 arg5 harg5 arg13 arg20 x0 x1 x2 x3 x4 (ix2 r j) = rowY (par x2 x3 x4 x5 x6 x7 x8 x9 x10 1) (arow x0 1 r.val) (xrow x1 1 r.val) k := by
  refine read2 0 1024 256 256 fun r' k' hr hk' => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc1_1280 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 1280 + j.val) : namedRun.sl.v2496 (F := Ideal) c arg1 harg1 arg2 harg2 arg3 harg3 arg4 harg4 arg5 harg5 arg13 arg20 x0 x1 x2 x3 x4 (ix2 r j) = rowY (par x2 x3 x4 x5 x6 x7 x8 x9 x10 1) (arow x0 1 r.val) (xrow x1 1 r.val) k := by
  refine read2 0 1280 256 256 fun r' k' hr hk' => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc1_1536 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 1536 + j.val) : namedRun.sl.v2514 (F := Ideal) c arg1 harg1 arg2 harg2 arg3 harg3 arg4 harg4 arg5 harg5 arg13 arg20 x0 x1 x2 x3 x4 (ix2 r j) = rowY (par x2 x3 x4 x5 x6 x7 x8 x9 x10 1) (arow x0 1 r.val) (xrow x1 1 r.val) k := by
  refine read2 0 1536 256 256 fun r' k' hr hk' => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc1_1792 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 1792 + j.val) : namedRun.sl.v2532 (F := Ideal) c arg1 harg1 arg2 harg2 arg3 harg3 arg4 harg4 arg5 harg5 arg13 arg20 x0 x1 x2 x3 x4 (ix2 r j) = rowY (par x2 x3 x4 x5 x6 x7 x8 x9 x10 1) (arow x0 1 r.val) (xrow x1 1 r.val) k := by
  refine read2 0 1792 256 256 fun r' k' hr hk' => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc1_2048 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 2048 + j.val) : namedRun.sl.v2550 (F := Ideal) c arg1 harg1 arg2 harg2 arg3 harg3 arg4 harg4 arg5 harg5 arg13 arg20 x0 x1 x2 x3 x4 (ix2 r j) = rowY (par x2 x3 x4 x5 x6 x7 x8 x9 x10 1) (arow x0 1 r.val) (xrow x1 1 r.val) k := by
  refine read2 0 2048 256 256 fun r' k' hr hk' => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem yc1_2304 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (j : Fin 256) (k : Fin 2560) (hk : k.val = 2304 + j.val) : namedRun.sl.v2568 (F := Ideal) c arg1 harg1 arg2 harg2 arg3 harg3 arg4 harg4 arg5 harg5 arg13 arg20 x0 x1 x2 x3 x4 (ix2 r j) = rowY (par x2 x3 x4 x5 x6 x7 x8 x9 x10 1) (arow x0 1 r.val) (xrow x1 1 r.val) k := by
  refine read2 0 2304 256 256 fun r' k' hr hk' => ?_
  rw [y1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

end Cert.KernelIdeal.Tail

end
-- ==== Proof.ValueNorm.lean ====
/- The normed rows' scales and codes as the body names them, at an index. -/
module

public import proofs.«01_k».proof.Proof.ValueY

@[expose] public section

set_option maxRecDepth 16384
set_option maxHeartbeats 4000000

noncomputable section

namespace Cert.KernelIdeal.Tail

open Cert.KernelIdeal.Gen Cert.Tail
open Idealize.ShloMosaic Idealize.ShloMosaic.TcCoe Idealize.ShloMosaic.Tactic

theorem nb0_0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 0 inb_S6x2x2560_S1x1x2560_3_0_0) (ldMw harg3 x2 4 0 inb_S6x2x2560_S1x1x2560_4_0_0) (namedRun.sl.v474 (F := Ideal) c arg1 harg1 arg2 harg2 arg3 harg3 arg4 harg4 arg5 harg5 arg13 arg20 x0 x1 x2 x3 x4) (ix2 i k) = (rowN (par x2 x3 x4 x5 x6 x7 x8 x9 x10 0) (arow x0 0 (0 + i.val)) (xrow x1 0 (0 + i.val))) k := by
  exact stNorm_at harg3 x2 0 _ i _ (yr0_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb0_32 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 0 inb_S6x2x2560_S1x1x2560_3_0_0) (ldMw harg3 x2 4 0 inb_S6x2x2560_S1x1x2560_4_0_0) (namedRun.sl.v510 (F := Ideal) c arg1 harg1 arg2 harg2 arg3 harg3 arg4 harg4 arg5 harg5 arg13 arg20 x0 x1 x2 x3 x4) (ix2 i k) = (rowN (par x2 x3 x4 x5 x6 x7 x8 x9 x10 0) (arow x0 0 (32 + i.val)) (xrow x1 0 (32 + i.val))) k := by
  exact stNorm_at harg3 x2 0 _ i _ (yr0_32 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb0_64 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 0 inb_S6x2x2560_S1x1x2560_3_0_0) (ldMw harg3 x2 4 0 inb_S6x2x2560_S1x1x2560_4_0_0) (namedRun.sl.v546 (F := Ideal) c arg1 harg1 arg2 harg2 arg3 harg3 arg4 harg4 arg5 harg5 arg13 arg20 x0 x1 x2 x3 x4) (ix2 i k) = (rowN (par x2 x3 x4 x5 x6 x7 x8 x9 x10 0) (arow x0 0 (64 + i.val)) (xrow x1 0 (64 + i.val))) k := by
  exact stNorm_at harg3 x2 0 _ i _ (yr0_64 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb0_96 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 0 inb_S6x2x2560_S1x1x2560_3_0_0) (ldMw harg3 x2 4 0 inb_S6x2x2560_S1x1x2560_4_0_0) (namedRun.sl.v582 (F := Ideal) c arg1 harg1 arg2 harg2 arg3 harg3 arg4 harg4 arg5 harg5 arg13 arg20 x0 x1 x2 x3 x4) (ix2 i k) = (rowN (par x2 x3 x4 x5 x6 x7 x8 x9 x10 0) (arow x0 0 (96 + i.val)) (xrow x1 0 (96 + i.val))) k := by
  exact stNorm_at harg3 x2 0 _ i _ (yr0_96 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb0_128 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 0 inb_S6x2x2560_S1x1x2560_3_0_0) (ldMw harg3 x2 4 0 inb_S6x2x2560_S1x1x2560_4_0_0) (namedRun.sl.v618 (F := Ideal) c arg1 harg1 arg2 harg2 arg3 harg3 arg4 harg4 arg5 harg5 arg13 arg20 x0 x1 x2 x3 x4) (ix2 i k) = (rowN (par x2 x3 x4 x5 x6 x7 x8 x9 x10 0) (arow x0 0 (128 + i.val)) (xrow x1 0 (128 + i.val))) k := by
  exact stNorm_at harg3 x2 0 _ i _ (yr0_128 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb0_160 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 0 inb_S6x2x2560_S1x1x2560_3_0_0) (ldMw harg3 x2 4 0 inb_S6x2x2560_S1x1x2560_4_0_0) (namedRun.sl.v654 (F := Ideal) c arg1 harg1 arg2 harg2 arg3 harg3 arg4 harg4 arg5 harg5 arg13 arg20 x0 x1 x2 x3 x4) (ix2 i k) = (rowN (par x2 x3 x4 x5 x6 x7 x8 x9 x10 0) (arow x0 0 (160 + i.val)) (xrow x1 0 (160 + i.val))) k := by
  exact stNorm_at harg3 x2 0 _ i _ (yr0_160 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb0_192 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 0 inb_S6x2x2560_S1x1x2560_3_0_0) (ldMw harg3 x2 4 0 inb_S6x2x2560_S1x1x2560_4_0_0) (namedRun.sl.v690 (F := Ideal) c arg1 harg1 arg2 harg2 arg3 harg3 arg4 harg4 arg5 harg5 arg13 arg20 x0 x1 x2 x3 x4) (ix2 i k) = (rowN (par x2 x3 x4 x5 x6 x7 x8 x9 x10 0) (arow x0 0 (192 + i.val)) (xrow x1 0 (192 + i.val))) k := by
  exact stNorm_at harg3 x2 0 _ i _ (yr0_192 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb0_224 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 0 inb_S6x2x2560_S1x1x2560_3_0_0) (ldMw harg3 x2 4 0 inb_S6x2x2560_S1x1x2560_4_0_0) (namedRun.sl.v726 (F := Ideal) c arg1 harg1 arg2 harg2 arg3 harg3 arg4 harg4 arg5 harg5 arg13 arg20 x0 x1 x2 x3 x4) (ix2 i k) = (rowN (par x2 x3 x4 x5 x6 x7 x8 x9 x10 0) (arow x0 0 (224 + i.val)) (xrow x1 0 (224 + i.val))) k := by
  exact stNorm_at harg3 x2 0 _ i _ (yr0_224 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem sn0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) : namedRun.sl.r_56 (F := Ideal) c arg1 harg1 arg2 harg2 arg3 harg3 arg4 harg4 arg5 harg5 arg13 arg20 x0 x1 x2 x3 x4 (ix2 r 0) = rowScale (rowN (par x2 x3 x4 x5 x6 x7 x8 x9 x10 0) (arow x0 0 r.val) (xrow x1 0 r.val)) := by
  refine at_eq (k0_pay50 (F := Ideal) (stScale2560 (stNorm (ldMw harg3 x2 3 0 inb_S6x2x2560_S1x1x2560_3_0_0) (ldMw harg3 x2 4 0 inb_S6x2x2560_S1x1x2560_4_0_0) (namedRun.sl.v474 (F := Ideal) c arg1 harg1 arg2 harg2 arg3 harg3 arg4 harg4 arg5 harg5 arg13 arg20 x0 x1 x2 x3 x4))) (stScale2560 (stNorm (ldMw harg3 x2 3 0 inb_S6x2x2560_S1x1x2560_3_0_0) (ldMw harg3 x2 4 0 inb_S6x2x2560_S1x1x2560_4_0_0) (namedRun.sl.v510 (F := Ideal) c arg1 harg1 arg2 harg2 arg3 harg3 arg4 harg4 arg5 harg5 arg13 arg20 x0 x1 x2 x3 x4))) (stScale2560 (stNorm (ldMw harg3 x2 3 0 inb_S6x2x2560_S1x1x2560_3_0_0) (ldMw harg3 x2 4 0 inb_S6x2x2560_S1x1x2560_4_0_0) (namedRun.sl.v546 (F := Ideal) c arg1 harg1 arg2 harg2 arg3 harg3 arg4 harg4 arg5 harg5 arg13 arg20 x0 x1 x2 x3 x4))) (stScale2560 (stNorm (ldMw harg3 x2 3 0 inb_S6x2x2560_S1x1x2560_3_0_0) (ldMw harg3 x2 4 0 inb_S6x2x2560_S1x1x2560_4_0_0) (namedRun.sl.v582 (F := Ideal) c arg1 harg1 arg2 harg2 arg3 harg3 arg4 harg4 arg5 harg5 arg13 arg20 x0 x1 x2 x3 x4))) (stScale2560 (stNorm (ldMw harg3 x2 3 0 inb_S6x2x2560_S1x1x2560_3_0_0) (ldMw harg3 x2 4 0 inb_S6x2x2560_S1x1x2560_4_0_0) (namedRun.sl.v618 (F := Ideal) c arg1 harg1 arg2 harg2 arg3 harg3 arg4 harg4 arg5 harg5 arg13 arg20 x0 x1 x2 x3 x4))) (stScale2560 (stNorm (ldMw harg3 x2 3 0 inb_S6x2x2560_S1x1x2560_3_0_0) (ldMw harg3 x2 4 0 inb_S6x2x2560_S1x1x2560_4_0_0) (namedRun.sl.v654 (F := Ideal) c arg1 harg1 arg2 harg2 arg3 harg3 arg4 harg4 arg5 harg5 arg13 arg20 x0 x1 x2 x3 x4))) (stScale2560 (stNorm (ldMw harg3 x2 3 0 inb_S6x2x2560_S1x1x2560_3_0_0) (ldMw harg3 x2 4 0 inb_S6x2x2560_S1x1x2560_4_0_0) (namedRun.sl.v690 (F := Ideal) c arg1 harg1 arg2 harg2 arg3 harg3 arg4 harg4 arg5 harg5 arg13 arg20 x0 x1 x2 x3 x4))) (stScale2560 (stNorm (ldMw harg3 x2 3 0 inb_S6x2x2560_S1x1x2560_3_0_0) (ldMw harg3 x2 4 0 inb_S6x2x2560_S1x1x2560_4_0_0) (namedRun.sl.v726 (F := Ideal) c arg1 harg1 arg2 harg2 arg3 harg3 arg4 harg4 arg5 harg5 arg13 arg20 x0 x1 x2 x3 x4)))) ?_ ?_
  · rfl
  exact cat8_at _ _ _ _ _ _ _ _ (fun r => rowScale (rowN (par x2 x3 x4 x5 x6 x7 x8 x9 x10 0) (arow x0 0 r) (xrow x1 0 r))) (fun i => stScale2560_at _ i _ (nb0_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb0_32 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb0_64 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb0_96 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb0_128 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb0_160 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb0_192 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb0_224 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) r

theorem nb1_0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 1 inb_S6x2x2560_S1x1x2560_3_1_0) (ldMw harg3 x2 4 1 inb_S6x2x2560_S1x1x2560_4_1_0) (namedRun.sl.v1763 (F := Ideal) c arg1 harg1 arg2 harg2 arg3 harg3 arg4 harg4 arg5 harg5 arg13 arg20 x0 x1 x2 x3 x4) (ix2 i k) = (rowN (par x2 x3 x4 x5 x6 x7 x8 x9 x10 1) (arow x0 1 (0 + i.val)) (xrow x1 1 (0 + i.val))) k := by
  exact stNorm_at harg3 x2 1 _ i _ (yr1_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb1_32 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 1 inb_S6x2x2560_S1x1x2560_3_1_0) (ldMw harg3 x2 4 1 inb_S6x2x2560_S1x1x2560_4_1_0) (namedRun.sl.v1799 (F := Ideal) c arg1 harg1 arg2 harg2 arg3 harg3 arg4 harg4 arg5 harg5 arg13 arg20 x0 x1 x2 x3 x4) (ix2 i k) = (rowN (par x2 x3 x4 x5 x6 x7 x8 x9 x10 1) (arow x0 1 (32 + i.val)) (xrow x1 1 (32 + i.val))) k := by
  exact stNorm_at harg3 x2 1 _ i _ (yr1_32 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb1_64 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 1 inb_S6x2x2560_S1x1x2560_3_1_0) (ldMw harg3 x2 4 1 inb_S6x2x2560_S1x1x2560_4_1_0) (namedRun.sl.v1835 (F := Ideal) c arg1 harg1 arg2 harg2 arg3 harg3 arg4 harg4 arg5 harg5 arg13 arg20 x0 x1 x2 x3 x4) (ix2 i k) = (rowN (par x2 x3 x4 x5 x6 x7 x8 x9 x10 1) (arow x0 1 (64 + i.val)) (xrow x1 1 (64 + i.val))) k := by
  exact stNorm_at harg3 x2 1 _ i _ (yr1_64 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb1_96 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 1 inb_S6x2x2560_S1x1x2560_3_1_0) (ldMw harg3 x2 4 1 inb_S6x2x2560_S1x1x2560_4_1_0) (namedRun.sl.v1871 (F := Ideal) c arg1 harg1 arg2 harg2 arg3 harg3 arg4 harg4 arg5 harg5 arg13 arg20 x0 x1 x2 x3 x4) (ix2 i k) = (rowN (par x2 x3 x4 x5 x6 x7 x8 x9 x10 1) (arow x0 1 (96 + i.val)) (xrow x1 1 (96 + i.val))) k := by
  exact stNorm_at harg3 x2 1 _ i _ (yr1_96 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb1_128 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 1 inb_S6x2x2560_S1x1x2560_3_1_0) (ldMw harg3 x2 4 1 inb_S6x2x2560_S1x1x2560_4_1_0) (namedRun.sl.v1907 (F := Ideal) c arg1 harg1 arg2 harg2 arg3 harg3 arg4 harg4 arg5 harg5 arg13 arg20 x0 x1 x2 x3 x4) (ix2 i k) = (rowN (par x2 x3 x4 x5 x6 x7 x8 x9 x10 1) (arow x0 1 (128 + i.val)) (xrow x1 1 (128 + i.val))) k := by
  exact stNorm_at harg3 x2 1 _ i _ (yr1_128 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb1_160 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 1 inb_S6x2x2560_S1x1x2560_3_1_0) (ldMw harg3 x2 4 1 inb_S6x2x2560_S1x1x2560_4_1_0) (namedRun.sl.v1943 (F := Ideal) c arg1 harg1 arg2 harg2 arg3 harg3 arg4 harg4 arg5 harg5 arg13 arg20 x0 x1 x2 x3 x4) (ix2 i k) = (rowN (par x2 x3 x4 x5 x6 x7 x8 x9 x10 1) (arow x0 1 (160 + i.val)) (xrow x1 1 (160 + i.val))) k := by
  exact stNorm_at harg3 x2 1 _ i _ (yr1_160 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb1_192 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 1 inb_S6x2x2560_S1x1x2560_3_1_0) (ldMw harg3 x2 4 1 inb_S6x2x2560_S1x1x2560_4_1_0) (namedRun.sl.v1979 (F := Ideal) c arg1 harg1 arg2 harg2 arg3 harg3 arg4 harg4 arg5 harg5 arg13 arg20 x0 x1 x2 x3 x4) (ix2 i k) = (rowN (par x2 x3 x4 x5 x6 x7 x8 x9 x10 1) (arow x0 1 (192 + i.val)) (xrow x1 1 (192 + i.val))) k := by
  exact stNorm_at harg3 x2 1 _ i _ (yr1_192 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem nb1_224 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 2560) : stNorm (ldMw harg3 x2 3 1 inb_S6x2x2560_S1x1x2560_3_1_0) (ldMw harg3 x2 4 1 inb_S6x2x2560_S1x1x2560_4_1_0) (namedRun.sl.v2015 (F := Ideal) c arg1 harg1 arg2 harg2 arg3 harg3 arg4 harg4 arg5 harg5 arg13 arg20 x0 x1 x2 x3 x4) (ix2 i k) = (rowN (par x2 x3 x4 x5 x6 x7 x8 x9 x10 1) (arow x0 1 (224 + i.val)) (xrow x1 1 (224 + i.val))) k := by
  exact stNorm_at harg3 x2 1 _ i _ (yr1_224 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) _ _ k

theorem sn1 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) : namedRun.sl.r_141 (F := Ideal) c arg1 harg1 arg2 harg2 arg3 harg3 arg4 harg4 arg5 harg5 arg13 arg20 x0 x1 x2 x3 x4 (ix2 r 0) = rowScale (rowN (par x2 x3 x4 x5 x6 x7 x8 x9 x10 1) (arow x0 1 r.val) (xrow x1 1 r.val)) := by
  refine at_eq (k0_pay50 (F := Ideal) (stScale2560 (stNorm (ldMw harg3 x2 3 1 inb_S6x2x2560_S1x1x2560_3_1_0) (ldMw harg3 x2 4 1 inb_S6x2x2560_S1x1x2560_4_1_0) (namedRun.sl.v1763 (F := Ideal) c arg1 harg1 arg2 harg2 arg3 harg3 arg4 harg4 arg5 harg5 arg13 arg20 x0 x1 x2 x3 x4))) (stScale2560 (stNorm (ldMw harg3 x2 3 1 inb_S6x2x2560_S1x1x2560_3_1_0) (ldMw harg3 x2 4 1 inb_S6x2x2560_S1x1x2560_4_1_0) (namedRun.sl.v1799 (F := Ideal) c arg1 harg1 arg2 harg2 arg3 harg3 arg4 harg4 arg5 harg5 arg13 arg20 x0 x1 x2 x3 x4))) (stScale2560 (stNorm (ldMw harg3 x2 3 1 inb_S6x2x2560_S1x1x2560_3_1_0) (ldMw harg3 x2 4 1 inb_S6x2x2560_S1x1x2560_4_1_0) (namedRun.sl.v1835 (F := Ideal) c arg1 harg1 arg2 harg2 arg3 harg3 arg4 harg4 arg5 harg5 arg13 arg20 x0 x1 x2 x3 x4))) (stScale2560 (stNorm (ldMw harg3 x2 3 1 inb_S6x2x2560_S1x1x2560_3_1_0) (ldMw harg3 x2 4 1 inb_S6x2x2560_S1x1x2560_4_1_0) (namedRun.sl.v1871 (F := Ideal) c arg1 harg1 arg2 harg2 arg3 harg3 arg4 harg4 arg5 harg5 arg13 arg20 x0 x1 x2 x3 x4))) (stScale2560 (stNorm (ldMw harg3 x2 3 1 inb_S6x2x2560_S1x1x2560_3_1_0) (ldMw harg3 x2 4 1 inb_S6x2x2560_S1x1x2560_4_1_0) (namedRun.sl.v1907 (F := Ideal) c arg1 harg1 arg2 harg2 arg3 harg3 arg4 harg4 arg5 harg5 arg13 arg20 x0 x1 x2 x3 x4))) (stScale2560 (stNorm (ldMw harg3 x2 3 1 inb_S6x2x2560_S1x1x2560_3_1_0) (ldMw harg3 x2 4 1 inb_S6x2x2560_S1x1x2560_4_1_0) (namedRun.sl.v1943 (F := Ideal) c arg1 harg1 arg2 harg2 arg3 harg3 arg4 harg4 arg5 harg5 arg13 arg20 x0 x1 x2 x3 x4))) (stScale2560 (stNorm (ldMw harg3 x2 3 1 inb_S6x2x2560_S1x1x2560_3_1_0) (ldMw harg3 x2 4 1 inb_S6x2x2560_S1x1x2560_4_1_0) (namedRun.sl.v1979 (F := Ideal) c arg1 harg1 arg2 harg2 arg3 harg3 arg4 harg4 arg5 harg5 arg13 arg20 x0 x1 x2 x3 x4))) (stScale2560 (stNorm (ldMw harg3 x2 3 1 inb_S6x2x2560_S1x1x2560_3_1_0) (ldMw harg3 x2 4 1 inb_S6x2x2560_S1x1x2560_4_1_0) (namedRun.sl.v2015 (F := Ideal) c arg1 harg1 arg2 harg2 arg3 harg3 arg4 harg4 arg5 harg5 arg13 arg20 x0 x1 x2 x3 x4)))) ?_ ?_
  · rfl
  exact cat8_at _ _ _ _ _ _ _ _ (fun r => rowScale (rowN (par x2 x3 x4 x5 x6 x7 x8 x9 x10 1) (arow x0 1 r) (xrow x1 1 r))) (fun i => stScale2560_at _ i _ (nb1_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb1_32 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb1_64 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb1_96 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb1_128 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb1_160 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb1_192 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale2560_at _ i _ (nb1_224 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) r

theorem c14_0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (b : Fin 2) (hb0 : b.val = 0) (r : Fin 256) (k : Fin 2560) : View.canon (namedRun.sl.H14_8 (F := Ideal) c arg1 harg1 arg2 harg2 arg3 harg3 arg4 harg4 arg5 harg5 arg13 arg20 x0 x1 x2 x3 x4) (ix3 b r k) = rowCodes (rowN (par x2 x3 x4 x5 x6 x7 x8 x9 x10 b.val) (arow x0 b.val r.val) (xrow x1 b.val r.val)) k := by
  unfold namedRun.sl.H14_8
  refine step3 0 224 0 32 2560 (fun i j hb hr hk => ?_) fun q0 => ?_
  · refine at_eq (pcN (stNorm (ldMw harg3 x2 3 0 inb_S6x2x2560_S1x1x2560_3_0_0) (ldMw harg3 x2 4 0 inb_S6x2x2560_S1x1x2560_4_0_0) (namedRun.sl.v726 (F := Ideal) c arg1 harg1 arg2 harg2 arg3 harg3 arg4 harg4 arg5 harg5 arg13 arg20 x0 x1 x2 x3 x4))) ?_ ?_
    · rfl
    rw [hb, hr]
    exact pcN_at _ i _ (nb0_224 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 192 0 32 2560 (fun i j hb hr hk => ?_) fun q1 => ?_
  · refine at_eq (pcN (stNorm (ldMw harg3 x2 3 0 inb_S6x2x2560_S1x1x2560_3_0_0) (ldMw harg3 x2 4 0 inb_S6x2x2560_S1x1x2560_4_0_0) (namedRun.sl.v690 (F := Ideal) c arg1 harg1 arg2 harg2 arg3 harg3 arg4 harg4 arg5 harg5 arg13 arg20 x0 x1 x2 x3 x4))) ?_ ?_
    · rfl
    rw [hb, hr]
    exact pcN_at _ i _ (nb0_192 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 160 0 32 2560 (fun i j hb hr hk => ?_) fun q2 => ?_
  · refine at_eq (pcN (stNorm (ldMw harg3 x2 3 0 inb_S6x2x2560_S1x1x2560_3_0_0) (ldMw harg3 x2 4 0 inb_S6x2x2560_S1x1x2560_4_0_0) (namedRun.sl.v654 (F := Ideal) c arg1 harg1 arg2 harg2 arg3 harg3 arg4 harg4 arg5 harg5 arg13 arg20 x0 x1 x2 x3 x4))) ?_ ?_
    · rfl
    rw [hb, hr]
    exact pcN_at _ i _ (nb0_160 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 128 0 32 2560 (fun i j hb hr hk => ?_) fun q3 => ?_
  · refine at_eq (pcN (stNorm (ldMw harg3 x2 3 0 inb_S6x2x2560_S1x1x2560_3_0_0) (ldMw harg3 x2 4 0 inb_S6x2x2560_S1x1x2560_4_0_0) (namedRun.sl.v618 (F := Ideal) c arg1 harg1 arg2 harg2 arg3 harg3 arg4 harg4 arg5 harg5 arg13 arg20 x0 x1 x2 x3 x4))) ?_ ?_
    · rfl
    rw [hb, hr]
    exact pcN_at _ i _ (nb0_128 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 96 0 32 2560 (fun i j hb hr hk => ?_) fun q4 => ?_
  · refine at_eq (pcN (stNorm (ldMw harg3 x2 3 0 inb_S6x2x2560_S1x1x2560_3_0_0) (ldMw harg3 x2 4 0 inb_S6x2x2560_S1x1x2560_4_0_0) (namedRun.sl.v582 (F := Ideal) c arg1 harg1 arg2 harg2 arg3 harg3 arg4 harg4 arg5 harg5 arg13 arg20 x0 x1 x2 x3 x4))) ?_ ?_
    · rfl
    rw [hb, hr]
    exact pcN_at _ i _ (nb0_96 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 64 0 32 2560 (fun i j hb hr hk => ?_) fun q5 => ?_
  · refine at_eq (pcN (stNorm (ldMw harg3 x2 3 0 inb_S6x2x2560_S1x1x2560_3_0_0) (ldMw harg3 x2 4 0 inb_S6x2x2560_S1x1x2560_4_0_0) (namedRun.sl.v546 (F := Ideal) c arg1 harg1 arg2 harg2 arg3 harg3 arg4 harg4 arg5 harg5 arg13 arg20 x0 x1 x2 x3 x4))) ?_ ?_
    · rfl
    rw [hb, hr]
    exact pcN_at _ i _ (nb0_64 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 32 0 32 2560 (fun i j hb hr hk => ?_) fun q6 => ?_
  · refine at_eq (pcN (stNorm (ldMw harg3 x2 3 0 inb_S6x2x2560_S1x1x2560_3_0_0) (ldMw harg3 x2 4 0 inb_S6x2x2560_S1x1x2560_4_0_0) (namedRun.sl.v510 (F := Ideal) c arg1 harg1 arg2 harg2 arg3 harg3 arg4 harg4 arg5 harg5 arg13 arg20 x0 x1 x2 x3 x4))) ?_ ?_
    · rfl
    rw [hb, hr]
    exact pcN_at _ i _ (nb0_32 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 0 0 32 2560 (fun i j hb hr hk => ?_) fun q7 => ?_
  · refine at_eq (pcN (stNorm (ldMw harg3 x2 3 0 inb_S6x2x2560_S1x1x2560_3_0_0) (ldMw harg3 x2 4 0 inb_S6x2x2560_S1x1x2560_4_0_0) (namedRun.sl.v474 (F := Ideal) c arg1 harg1 arg2 harg2 arg3 harg3 arg4 harg4 arg5 harg5 arg13 arg20 x0 x1 x2 x3 x4))) ?_ ?_
    · rfl
    rw [hb, hr]
    exact pcN_at _ i _ (nb0_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  omega

theorem c14_1 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (b : Fin 2) (r : Fin 256) (k : Fin 2560) : View.canon (namedRun.sl.H14_16 (F := Ideal) c arg1 harg1 arg2 harg2 arg3 harg3 arg4 harg4 arg5 harg5 arg13 arg20 x0 x1 x2 x3 x4) (ix3 b r k) = rowCodes (rowN (par x2 x3 x4 x5 x6 x7 x8 x9 x10 b.val) (arow x0 b.val r.val) (xrow x1 b.val r.val)) k := by
  unfold namedRun.sl.H14_16 namedRun.sl.H14_8
  refine step3 1 224 0 32 2560 (fun i j hb hr hk => ?_) fun q0 => ?_
  · refine at_eq (pcN (stNorm (ldMw harg3 x2 3 1 inb_S6x2x2560_S1x1x2560_3_1_0) (ldMw harg3 x2 4 1 inb_S6x2x2560_S1x1x2560_4_1_0) (namedRun.sl.v2015 (F := Ideal) c arg1 harg1 arg2 harg2 arg3 harg3 arg4 harg4 arg5 harg5 arg13 arg20 x0 x1 x2 x3 x4))) ?_ ?_
    · rfl
    rw [hb, hr]
    exact pcN_at _ i _ (nb1_224 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 1 192 0 32 2560 (fun i j hb hr hk => ?_) fun q1 => ?_
  · refine at_eq (pcN (stNorm (ldMw harg3 x2 3 1 inb_S6x2x2560_S1x1x2560_3_1_0) (ldMw harg3 x2 4 1 inb_S6x2x2560_S1x1x2560_4_1_0) (namedRun.sl.v1979 (F := Ideal) c arg1 harg1 arg2 harg2 arg3 harg3 arg4 harg4 arg5 harg5 arg13 arg20 x0 x1 x2 x3 x4))) ?_ ?_
    · rfl
    rw [hb, hr]
    exact pcN_at _ i _ (nb1_192 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 1 160 0 32 2560 (fun i j hb hr hk => ?_) fun q2 => ?_
  · refine at_eq (pcN (stNorm (ldMw harg3 x2 3 1 inb_S6x2x2560_S1x1x2560_3_1_0) (ldMw harg3 x2 4 1 inb_S6x2x2560_S1x1x2560_4_1_0) (namedRun.sl.v1943 (F := Ideal) c arg1 harg1 arg2 harg2 arg3 harg3 arg4 harg4 arg5 harg5 arg13 arg20 x0 x1 x2 x3 x4))) ?_ ?_
    · rfl
    rw [hb, hr]
    exact pcN_at _ i _ (nb1_160 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 1 128 0 32 2560 (fun i j hb hr hk => ?_) fun q3 => ?_
  · refine at_eq (pcN (stNorm (ldMw harg3 x2 3 1 inb_S6x2x2560_S1x1x2560_3_1_0) (ldMw harg3 x2 4 1 inb_S6x2x2560_S1x1x2560_4_1_0) (namedRun.sl.v1907 (F := Ideal) c arg1 harg1 arg2 harg2 arg3 harg3 arg4 harg4 arg5 harg5 arg13 arg20 x0 x1 x2 x3 x4))) ?_ ?_
    · rfl
    rw [hb, hr]
    exact pcN_at _ i _ (nb1_128 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 1 96 0 32 2560 (fun i j hb hr hk => ?_) fun q4 => ?_
  · refine at_eq (pcN (stNorm (ldMw harg3 x2 3 1 inb_S6x2x2560_S1x1x2560_3_1_0) (ldMw harg3 x2 4 1 inb_S6x2x2560_S1x1x2560_4_1_0) (namedRun.sl.v1871 (F := Ideal) c arg1 harg1 arg2 harg2 arg3 harg3 arg4 harg4 arg5 harg5 arg13 arg20 x0 x1 x2 x3 x4))) ?_ ?_
    · rfl
    rw [hb, hr]
    exact pcN_at _ i _ (nb1_96 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 1 64 0 32 2560 (fun i j hb hr hk => ?_) fun q5 => ?_
  · refine at_eq (pcN (stNorm (ldMw harg3 x2 3 1 inb_S6x2x2560_S1x1x2560_3_1_0) (ldMw harg3 x2 4 1 inb_S6x2x2560_S1x1x2560_4_1_0) (namedRun.sl.v1835 (F := Ideal) c arg1 harg1 arg2 harg2 arg3 harg3 arg4 harg4 arg5 harg5 arg13 arg20 x0 x1 x2 x3 x4))) ?_ ?_
    · rfl
    rw [hb, hr]
    exact pcN_at _ i _ (nb1_64 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 1 32 0 32 2560 (fun i j hb hr hk => ?_) fun q6 => ?_
  · refine at_eq (pcN (stNorm (ldMw harg3 x2 3 1 inb_S6x2x2560_S1x1x2560_3_1_0) (ldMw harg3 x2 4 1 inb_S6x2x2560_S1x1x2560_4_1_0) (namedRun.sl.v1799 (F := Ideal) c arg1 harg1 arg2 harg2 arg3 harg3 arg4 harg4 arg5 harg5 arg13 arg20 x0 x1 x2 x3 x4))) ?_ ?_
    · rfl
    rw [hb, hr]
    exact pcN_at _ i _ (nb1_32 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 1 0 0 32 2560 (fun i j hb hr hk => ?_) fun q7 => ?_
  · refine at_eq (pcN (stNorm (ldMw harg3 x2 3 1 inb_S6x2x2560_S1x1x2560_3_1_0) (ldMw harg3 x2 4 1 inb_S6x2x2560_S1x1x2560_4_1_0) (namedRun.sl.v1763 (F := Ideal) c arg1 harg1 arg2 harg2 arg3 harg3 arg4 harg4 arg5 harg5 arg13 arg20 x0 x1 x2 x3 x4))) ?_ ?_
    · rfl
    rw [hb, hr]
    exact pcN_at _ i _ (nb1_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 224 0 32 2560 (fun i j hb hr hk => ?_) fun q8 => ?_
  · refine at_eq (pcN (stNorm (ldMw harg3 x2 3 0 inb_S6x2x2560_S1x1x2560_3_0_0) (ldMw harg3 x2 4 0 inb_S6x2x2560_S1x1x2560_4_0_0) (namedRun.sl.v726 (F := Ideal) c arg1 harg1 arg2 harg2 arg3 harg3 arg4 harg4 arg5 harg5 arg13 arg20 x0 x1 x2 x3 x4))) ?_ ?_
    · rfl
    rw [hb, hr]
    exact pcN_at _ i _ (nb0_224 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 192 0 32 2560 (fun i j hb hr hk => ?_) fun q9 => ?_
  · refine at_eq (pcN (stNorm (ldMw harg3 x2 3 0 inb_S6x2x2560_S1x1x2560_3_0_0) (ldMw harg3 x2 4 0 inb_S6x2x2560_S1x1x2560_4_0_0) (namedRun.sl.v690 (F := Ideal) c arg1 harg1 arg2 harg2 arg3 harg3 arg4 harg4 arg5 harg5 arg13 arg20 x0 x1 x2 x3 x4))) ?_ ?_
    · rfl
    rw [hb, hr]
    exact pcN_at _ i _ (nb0_192 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 160 0 32 2560 (fun i j hb hr hk => ?_) fun q10 => ?_
  · refine at_eq (pcN (stNorm (ldMw harg3 x2 3 0 inb_S6x2x2560_S1x1x2560_3_0_0) (ldMw harg3 x2 4 0 inb_S6x2x2560_S1x1x2560_4_0_0) (namedRun.sl.v654 (F := Ideal) c arg1 harg1 arg2 harg2 arg3 harg3 arg4 harg4 arg5 harg5 arg13 arg20 x0 x1 x2 x3 x4))) ?_ ?_
    · rfl
    rw [hb, hr]
    exact pcN_at _ i _ (nb0_160 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 128 0 32 2560 (fun i j hb hr hk => ?_) fun q11 => ?_
  · refine at_eq (pcN (stNorm (ldMw harg3 x2 3 0 inb_S6x2x2560_S1x1x2560_3_0_0) (ldMw harg3 x2 4 0 inb_S6x2x2560_S1x1x2560_4_0_0) (namedRun.sl.v618 (F := Ideal) c arg1 harg1 arg2 harg2 arg3 harg3 arg4 harg4 arg5 harg5 arg13 arg20 x0 x1 x2 x3 x4))) ?_ ?_
    · rfl
    rw [hb, hr]
    exact pcN_at _ i _ (nb0_128 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 96 0 32 2560 (fun i j hb hr hk => ?_) fun q12 => ?_
  · refine at_eq (pcN (stNorm (ldMw harg3 x2 3 0 inb_S6x2x2560_S1x1x2560_3_0_0) (ldMw harg3 x2 4 0 inb_S6x2x2560_S1x1x2560_4_0_0) (namedRun.sl.v582 (F := Ideal) c arg1 harg1 arg2 harg2 arg3 harg3 arg4 harg4 arg5 harg5 arg13 arg20 x0 x1 x2 x3 x4))) ?_ ?_
    · rfl
    rw [hb, hr]
    exact pcN_at _ i _ (nb0_96 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 64 0 32 2560 (fun i j hb hr hk => ?_) fun q13 => ?_
  · refine at_eq (pcN (stNorm (ldMw harg3 x2 3 0 inb_S6x2x2560_S1x1x2560_3_0_0) (ldMw harg3 x2 4 0 inb_S6x2x2560_S1x1x2560_4_0_0) (namedRun.sl.v546 (F := Ideal) c arg1 harg1 arg2 harg2 arg3 harg3 arg4 harg4 arg5 harg5 arg13 arg20 x0 x1 x2 x3 x4))) ?_ ?_
    · rfl
    rw [hb, hr]
    exact pcN_at _ i _ (nb0_64 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 32 0 32 2560 (fun i j hb hr hk => ?_) fun q14 => ?_
  · refine at_eq (pcN (stNorm (ldMw harg3 x2 3 0 inb_S6x2x2560_S1x1x2560_3_0_0) (ldMw harg3 x2 4 0 inb_S6x2x2560_S1x1x2560_4_0_0) (namedRun.sl.v510 (F := Ideal) c arg1 harg1 arg2 harg2 arg3 harg3 arg4 harg4 arg5 harg5 arg13 arg20 x0 x1 x2 x3 x4))) ?_ ?_
    · rfl
    rw [hb, hr]
    exact pcN_at _ i _ (nb0_32 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step3 0 0 0 32 2560 (fun i j hb hr hk => ?_) fun q15 => ?_
  · refine at_eq (pcN (stNorm (ldMw harg3 x2 3 0 inb_S6x2x2560_S1x1x2560_3_0_0) (ldMw harg3 x2 4 0 inb_S6x2x2560_S1x1x2560_4_0_0) (namedRun.sl.v474 (F := Ideal) c arg1 harg1 arg2 harg2 arg3 harg3 arg4 harg4 arg5 harg5 arg13 arg20 x0 x1 x2 x3 x4))) ?_ ?_
    · rfl
    rw [hb, hr]
    exact pcN_at _ i _ (nb0_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  omega

theorem nd0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (k : Fin 2560) : namedRun.sl.v768 (F := Ideal) c arg1 harg1 arg2 harg2 arg3 harg3 arg4 harg4 arg5 harg5 arg13 arg15 arg20 x0 x1 x2 x3 x4 (ix3 0 r k) = rowCodes (rowN (par x2 x3 x4 x5 x6 x7 x8 x9 x10 0) (arow x0 0 r.val) (xrow x1 0 r.val)) k := by
  refine read3 0 0 0 256 2560 fun b' r' k' hb hr hk => ?_
  rw [c14_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 b' hb r' k', hb, hr, show k' = k from Fin.ext (by omega), Nat.zero_add]

theorem nd1 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (k : Fin 2560) : namedRun.sl.v2057 (F := Ideal) c arg1 harg1 arg2 harg2 arg3 harg3 arg4 harg4 arg5 harg5 arg13 arg15 arg20 x0 x1 x2 x3 x4 (ix3 0 r k) = rowCodes (rowN (par x2 x3 x4 x5 x6 x7 x8 x9 x10 1) (arow x0 1 r.val) (xrow x1 1 r.val)) k := by
  refine read3 1 0 0 256 2560 fun b' r' k' hb hr hk => ?_
  rw [c14_1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 b' r' k', hb, hr, show k' = k from Fin.ext (by omega), Nat.zero_add]

end Cert.KernelIdeal.Tail

end
-- ==== Proof.ValueHidden.lean ====
/- The hidden rows, their scales and codes as the body names them, at an index. -/
module

public import proofs.«01_k».proof.Proof.ValueNorm

@[expose] public section

set_option maxRecDepth 16384
set_option maxHeartbeats 4000000

noncomputable section

namespace Cert.KernelIdeal.Tail

open Cert.KernelIdeal.Gen Cert.Tail
open Idealize.ShloMosaic Idealize.ShloMosaic.TcCoe Idealize.ShloMosaic.Tactic

theorem h0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (k : Fin 1728) : View.canon (namedRun.sl.HS1_7 (F := Ideal) c arg1 harg1 arg2 harg2 arg3 harg3 arg4 harg4 arg5 harg5 arg6 harg6 arg7 harg7 arg8 harg8 arg9 harg9 arg13 arg15 arg20 x0 x1 x2 x3 x4 x5 x6 x7 x8) (ix2 r k) = (rowH (par x2 x3 x4 x5 x6 x7 x8 x9 x10 0) (arow x0 0 r.val) (xrow x1 0 r.val)) k := by
  unfold namedRun.sl.HS1_7
  refine step2 0 1536 256 192 (fun i j hr hk => ?_) fun q0 => ?_
  · refine at_eq (stH' (namedRun.sl.r_56 (F := Ideal) c arg1 harg1 arg2 harg2 arg3 harg3 arg4 harg4 arg5 harg5 arg13 arg20 x0 x1 x2 x3 x4) (namedRun.sl.v768 (F := Ideal) c arg1 harg1 arg2 harg2 arg3 harg3 arg4 harg4 arg5 harg5 arg13 arg15 arg20 x0 x1 x2 x3 x4) (ldW1' harg6 x5 1536 inb_S1728x2560_S192x2560_1536_0) (ldW1' harg8 x7 1536 inb_S1728x2560_S192x2560_1536_0) (ldS1' harg7 x6 1536 inb_S1x1728_S1x192_0_1536) (ldS1' harg9 x8 1536 inb_S1x1728_S1x192_0_1536)) ?_ ?_
    · rfl
    obtain rfl : r = i := Fin.ext (by omega)
    exact stH'_at (c := 1536) (p := (par x2 x3 x4 x5 x6 x7 x8 x9 x10 0)) (a := fun r => (arow x0 0 r)) (x := fun r => (xrow x1 0 r)) (hp1 := rfl) (hs1 := rfl) (hp3 := rfl) (hs3 := rfl) (hsc := sn0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 1280 256 256 (fun i j hr hk => ?_) fun q1 => ?_
  · refine at_eq (stH (namedRun.sl.r_56 (F := Ideal) c arg1 harg1 arg2 harg2 arg3 harg3 arg4 harg4 arg5 harg5 arg13 arg20 x0 x1 x2 x3 x4) (namedRun.sl.v768 (F := Ideal) c arg1 harg1 arg2 harg2 arg3 harg3 arg4 harg4 arg5 harg5 arg13 arg15 arg20 x0 x1 x2 x3 x4) (ldW1 harg6 x5 1280 inb_S1728x2560_S256x2560_1280_0) (ldW1 harg8 x7 1280 inb_S1728x2560_S256x2560_1280_0) (ldS1 harg7 x6 1280 inb_S1x1728_S1x256_0_1280) (ldS1 harg9 x8 1280 inb_S1x1728_S1x256_0_1280)) ?_ ?_
    · rfl
    obtain rfl : r = i := Fin.ext (by omega)
    exact stH_at (c := 1280) (p := (par x2 x3 x4 x5 x6 x7 x8 x9 x10 0)) (a := fun r => (arow x0 0 r)) (x := fun r => (xrow x1 0 r)) (hp1 := rfl) (hs1 := rfl) (hp3 := rfl) (hs3 := rfl) (hsc := sn0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 1024 256 256 (fun i j hr hk => ?_) fun q2 => ?_
  · refine at_eq (stH (namedRun.sl.r_56 (F := Ideal) c arg1 harg1 arg2 harg2 arg3 harg3 arg4 harg4 arg5 harg5 arg13 arg20 x0 x1 x2 x3 x4) (namedRun.sl.v768 (F := Ideal) c arg1 harg1 arg2 harg2 arg3 harg3 arg4 harg4 arg5 harg5 arg13 arg15 arg20 x0 x1 x2 x3 x4) (ldW1 harg6 x5 1024 inb_S1728x2560_S256x2560_1024_0) (ldW1 harg8 x7 1024 inb_S1728x2560_S256x2560_1024_0) (ldS1 harg7 x6 1024 inb_S1x1728_S1x256_0_1024) (ldS1 harg9 x8 1024 inb_S1x1728_S1x256_0_1024)) ?_ ?_
    · rfl
    obtain rfl : r = i := Fin.ext (by omega)
    exact stH_at (c := 1024) (p := (par x2 x3 x4 x5 x6 x7 x8 x9 x10 0)) (a := fun r => (arow x0 0 r)) (x := fun r => (xrow x1 0 r)) (hp1 := rfl) (hs1 := rfl) (hp3 := rfl) (hs3 := rfl) (hsc := sn0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 768 256 256 (fun i j hr hk => ?_) fun q3 => ?_
  · refine at_eq (stH (namedRun.sl.r_56 (F := Ideal) c arg1 harg1 arg2 harg2 arg3 harg3 arg4 harg4 arg5 harg5 arg13 arg20 x0 x1 x2 x3 x4) (namedRun.sl.v768 (F := Ideal) c arg1 harg1 arg2 harg2 arg3 harg3 arg4 harg4 arg5 harg5 arg13 arg15 arg20 x0 x1 x2 x3 x4) (ldW1 harg6 x5 768 inb_S1728x2560_S256x2560_768_0) (ldW1 harg8 x7 768 inb_S1728x2560_S256x2560_768_0) (ldS1 harg7 x6 768 inb_S1x1728_S1x256_0_768) (ldS1 harg9 x8 768 inb_S1x1728_S1x256_0_768)) ?_ ?_
    · rfl
    obtain rfl : r = i := Fin.ext (by omega)
    exact stH_at (c := 768) (p := (par x2 x3 x4 x5 x6 x7 x8 x9 x10 0)) (a := fun r => (arow x0 0 r)) (x := fun r => (xrow x1 0 r)) (hp1 := rfl) (hs1 := rfl) (hp3 := rfl) (hs3 := rfl) (hsc := sn0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 512 256 256 (fun i j hr hk => ?_) fun q4 => ?_
  · refine at_eq (stH (namedRun.sl.r_56 (F := Ideal) c arg1 harg1 arg2 harg2 arg3 harg3 arg4 harg4 arg5 harg5 arg13 arg20 x0 x1 x2 x3 x4) (namedRun.sl.v768 (F := Ideal) c arg1 harg1 arg2 harg2 arg3 harg3 arg4 harg4 arg5 harg5 arg13 arg15 arg20 x0 x1 x2 x3 x4) (ldW1 harg6 x5 512 inb_S1728x2560_S256x2560_512_0) (ldW1 harg8 x7 512 inb_S1728x2560_S256x2560_512_0) (ldS1 harg7 x6 512 inb_S1x1728_S1x256_0_512) (ldS1 harg9 x8 512 inb_S1x1728_S1x256_0_512)) ?_ ?_
    · rfl
    obtain rfl : r = i := Fin.ext (by omega)
    exact stH_at (c := 512) (p := (par x2 x3 x4 x5 x6 x7 x8 x9 x10 0)) (a := fun r => (arow x0 0 r)) (x := fun r => (xrow x1 0 r)) (hp1 := rfl) (hs1 := rfl) (hp3 := rfl) (hs3 := rfl) (hsc := sn0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 256 256 256 (fun i j hr hk => ?_) fun q5 => ?_
  · refine at_eq (stH (namedRun.sl.r_56 (F := Ideal) c arg1 harg1 arg2 harg2 arg3 harg3 arg4 harg4 arg5 harg5 arg13 arg20 x0 x1 x2 x3 x4) (namedRun.sl.v768 (F := Ideal) c arg1 harg1 arg2 harg2 arg3 harg3 arg4 harg4 arg5 harg5 arg13 arg15 arg20 x0 x1 x2 x3 x4) (ldW1 harg6 x5 256 inb_S1728x2560_S256x2560_256_0) (ldW1 harg8 x7 256 inb_S1728x2560_S256x2560_256_0) (ldS1 harg7 x6 256 inb_S1x1728_S1x256_0_256) (ldS1 harg9 x8 256 inb_S1x1728_S1x256_0_256)) ?_ ?_
    · rfl
    obtain rfl : r = i := Fin.ext (by omega)
    exact stH_at (c := 256) (p := (par x2 x3 x4 x5 x6 x7 x8 x9 x10 0)) (a := fun r => (arow x0 0 r)) (x := fun r => (xrow x1 0 r)) (hp1 := rfl) (hs1 := rfl) (hp3 := rfl) (hs3 := rfl) (hsc := sn0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 0 256 256 (fun i j hr hk => ?_) fun q6 => ?_
  · refine at_eq (stH (namedRun.sl.r_56 (F := Ideal) c arg1 harg1 arg2 harg2 arg3 harg3 arg4 harg4 arg5 harg5 arg13 arg20 x0 x1 x2 x3 x4) (namedRun.sl.v768 (F := Ideal) c arg1 harg1 arg2 harg2 arg3 harg3 arg4 harg4 arg5 harg5 arg13 arg15 arg20 x0 x1 x2 x3 x4) (ldW1 harg6 x5 0 inb_S1728x2560_S256x2560_0_0) (ldW1 harg8 x7 0 inb_S1728x2560_S256x2560_0_0) (ldS1 harg7 x6 0 inb_S1x1728_S1x256_0_0) (ldS1 harg9 x8 0 inb_S1x1728_S1x256_0_0)) ?_ ?_
    · rfl
    obtain rfl : r = i := Fin.ext (by omega)
    exact stH_at (c := 0) (p := (par x2 x3 x4 x5 x6 x7 x8 x9 x10 0)) (a := fun r => (arow x0 0 r)) (x := fun r => (xrow x1 0 r)) (hp1 := rfl) (hs1 := rfl) (hp3 := rfl) (hs3 := rfl) (hsc := sn0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  omega

theorem hr0_0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v938 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 0) (arow x0 0 (0 + i.val)) (xrow x1 0 (0 + i.val))) k := by
  refine read2 0 0 32 1728 fun r' k' hr hk => ?_
  rw [h0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr0_32 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v958 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 0) (arow x0 0 (32 + i.val)) (xrow x1 0 (32 + i.val))) k := by
  refine read2 32 0 32 1728 fun r' k' hr hk => ?_
  rw [h0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr0_64 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v978 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 0) (arow x0 0 (64 + i.val)) (xrow x1 0 (64 + i.val))) k := by
  refine read2 64 0 32 1728 fun r' k' hr hk => ?_
  rw [h0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr0_96 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v998 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 0) (arow x0 0 (96 + i.val)) (xrow x1 0 (96 + i.val))) k := by
  refine read2 96 0 32 1728 fun r' k' hr hk => ?_
  rw [h0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr0_128 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v1018 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 0) (arow x0 0 (128 + i.val)) (xrow x1 0 (128 + i.val))) k := by
  refine read2 128 0 32 1728 fun r' k' hr hk => ?_
  rw [h0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr0_160 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v1038 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 0) (arow x0 0 (160 + i.val)) (xrow x1 0 (160 + i.val))) k := by
  refine read2 160 0 32 1728 fun r' k' hr hk => ?_
  rw [h0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr0_192 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v1058 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 0) (arow x0 0 (192 + i.val)) (xrow x1 0 (192 + i.val))) k := by
  refine read2 192 0 32 1728 fun r' k' hr hk => ?_
  rw [h0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr0_224 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v1078 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 0) (arow x0 0 (224 + i.val)) (xrow x1 0 (224 + i.val))) k := by
  refine read2 224 0 32 1728 fun r' k' hr hk => ?_
  rw [h0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem sh0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) : namedRun.sl.r_78 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 r 0) = rowScale (rowH (par x2 x3 x4 x5 x6 x7 x8 x9 x10 0) (arow x0 0 r.val) (xrow x1 0 r.val)) := by
  refine at_eq (k0_pay50 (F := Ideal) (stScale1728 (namedRun.sl.v938 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v958 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v978 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v998 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v1018 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v1038 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v1058 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v1078 (F := Ideal) c arg1 harg1 arg2 harg2 arg3 harg3 arg4 harg4 arg5 harg5 arg6 harg6 arg7 harg7 arg8 harg8 arg9 harg9 arg13 arg15 arg20 arg21 x0 x1 x2 x3 x4 x5 x6 x7 x8))) ?_ ?_
  · rfl
  exact cat8_at _ _ _ _ _ _ _ _ (fun r => rowScale (rowH (par x2 x3 x4 x5 x6 x7 x8 x9 x10 0) (arow x0 0 r) (xrow x1 0 r))) (fun i => stScale1728_at _ i _ (hr0_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr0_32 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr0_64 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr0_96 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr0_128 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr0_160 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr0_192 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr0_224 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) r

theorem hc0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (k : Fin 1728) : View.canon (namedRun.sl.HS2_8 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (ix2 r k) = rowCodes (rowH (par x2 x3 x4 x5 x6 x7 x8 x9 x10 0) (arow x0 0 r.val) (xrow x1 0 r.val)) k := by
  unfold namedRun.sl.HS2_8
  refine step2 224 0 32 1728 (fun i j hr hk => ?_) fun q0 => ?_
  · refine at_eq (pcH (namedRun.sl.v1078 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr0_224 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 192 0 32 1728 (fun i j hr hk => ?_) fun q1 => ?_
  · refine at_eq (pcH (namedRun.sl.v1058 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr0_192 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 160 0 32 1728 (fun i j hr hk => ?_) fun q2 => ?_
  · refine at_eq (pcH (namedRun.sl.v1038 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr0_160 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 128 0 32 1728 (fun i j hr hk => ?_) fun q3 => ?_
  · refine at_eq (pcH (namedRun.sl.v1018 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr0_128 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 96 0 32 1728 (fun i j hr hk => ?_) fun q4 => ?_
  · refine at_eq (pcH (namedRun.sl.v998 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr0_96 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 64 0 32 1728 (fun i j hr hk => ?_) fun q5 => ?_
  · refine at_eq (pcH (namedRun.sl.v978 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr0_64 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 32 0 32 1728 (fun i j hr hk => ?_) fun q6 => ?_
  · refine at_eq (pcH (namedRun.sl.v958 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr0_32 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 0 0 32 1728 (fun i j hr hk => ?_) fun q7 => ?_
  · refine at_eq (pcH (namedRun.sl.v938 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr0_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  omega

theorem hd0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (k : Fin 1728) : namedRun.sl.v1104 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8 (ix2 r k) = rowCodes (rowH (par x2 x3 x4 x5 x6 x7 x8 x9 x10 0) (arow x0 0 r.val) (xrow x1 0 r.val)) k := by
  refine read2 0 0 256 1728 fun r' k' hr hk => ?_
  rw [hc0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

theorem h1 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (k : Fin 1728) : View.canon (namedRun.sl.HS1_14 (F := Ideal) c arg1 harg1 arg2 harg2 arg3 harg3 arg4 harg4 arg5 harg5 arg6 harg6 arg7 harg7 arg8 harg8 arg9 harg9 arg13 arg15 arg20 x0 x1 x2 x3 x4 x5 x6 x7 x8) (ix2 r k) = (rowH (par x2 x3 x4 x5 x6 x7 x8 x9 x10 1) (arow x0 1 r.val) (xrow x1 1 r.val)) k := by
  unfold namedRun.sl.HS1_14 namedRun.sl.HS1_9
  refine step2 0 1536 256 192 (fun i j hr hk => ?_) fun q0 => ?_
  · refine at_eq (stH' (namedRun.sl.r_141 (F := Ideal) c arg1 harg1 arg2 harg2 arg3 harg3 arg4 harg4 arg5 harg5 arg13 arg20 x0 x1 x2 x3 x4) (namedRun.sl.v2057 (F := Ideal) c arg1 harg1 arg2 harg2 arg3 harg3 arg4 harg4 arg5 harg5 arg13 arg15 arg20 x0 x1 x2 x3 x4) (ldW1' harg6 x5 1536 inb_S1728x2560_S192x2560_1536_0) (ldW1' harg8 x7 1536 inb_S1728x2560_S192x2560_1536_0) (ldS1' harg7 x6 1536 inb_S1x1728_S1x192_0_1536) (ldS1' harg9 x8 1536 inb_S1x1728_S1x192_0_1536)) ?_ ?_
    · rfl
    obtain rfl : r = i := Fin.ext (by omega)
    exact stH'_at (c := 1536) (p := (par x2 x3 x4 x5 x6 x7 x8 x9 x10 1)) (a := fun r => (arow x0 1 r)) (x := fun r => (xrow x1 1 r)) (hp1 := rfl) (hs1 := rfl) (hp3 := rfl) (hs3 := rfl) (hsc := sn1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 1280 256 256 (fun i j hr hk => ?_) fun q1 => ?_
  · refine at_eq (stH (namedRun.sl.r_141 (F := Ideal) c arg1 harg1 arg2 harg2 arg3 harg3 arg4 harg4 arg5 harg5 arg13 arg20 x0 x1 x2 x3 x4) (namedRun.sl.v2057 (F := Ideal) c arg1 harg1 arg2 harg2 arg3 harg3 arg4 harg4 arg5 harg5 arg13 arg15 arg20 x0 x1 x2 x3 x4) (ldW1 harg6 x5 1280 inb_S1728x2560_S256x2560_1280_0) (ldW1 harg8 x7 1280 inb_S1728x2560_S256x2560_1280_0) (ldS1 harg7 x6 1280 inb_S1x1728_S1x256_0_1280) (ldS1 harg9 x8 1280 inb_S1x1728_S1x256_0_1280)) ?_ ?_
    · rfl
    obtain rfl : r = i := Fin.ext (by omega)
    exact stH_at (c := 1280) (p := (par x2 x3 x4 x5 x6 x7 x8 x9 x10 1)) (a := fun r => (arow x0 1 r)) (x := fun r => (xrow x1 1 r)) (hp1 := rfl) (hs1 := rfl) (hp3 := rfl) (hs3 := rfl) (hsc := sn1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 1024 256 256 (fun i j hr hk => ?_) fun q2 => ?_
  · refine at_eq (stH (namedRun.sl.r_141 (F := Ideal) c arg1 harg1 arg2 harg2 arg3 harg3 arg4 harg4 arg5 harg5 arg13 arg20 x0 x1 x2 x3 x4) (namedRun.sl.v2057 (F := Ideal) c arg1 harg1 arg2 harg2 arg3 harg3 arg4 harg4 arg5 harg5 arg13 arg15 arg20 x0 x1 x2 x3 x4) (ldW1 harg6 x5 1024 inb_S1728x2560_S256x2560_1024_0) (ldW1 harg8 x7 1024 inb_S1728x2560_S256x2560_1024_0) (ldS1 harg7 x6 1024 inb_S1x1728_S1x256_0_1024) (ldS1 harg9 x8 1024 inb_S1x1728_S1x256_0_1024)) ?_ ?_
    · rfl
    obtain rfl : r = i := Fin.ext (by omega)
    exact stH_at (c := 1024) (p := (par x2 x3 x4 x5 x6 x7 x8 x9 x10 1)) (a := fun r => (arow x0 1 r)) (x := fun r => (xrow x1 1 r)) (hp1 := rfl) (hs1 := rfl) (hp3 := rfl) (hs3 := rfl) (hsc := sn1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 768 256 256 (fun i j hr hk => ?_) fun q3 => ?_
  · refine at_eq (stH (namedRun.sl.r_141 (F := Ideal) c arg1 harg1 arg2 harg2 arg3 harg3 arg4 harg4 arg5 harg5 arg13 arg20 x0 x1 x2 x3 x4) (namedRun.sl.v2057 (F := Ideal) c arg1 harg1 arg2 harg2 arg3 harg3 arg4 harg4 arg5 harg5 arg13 arg15 arg20 x0 x1 x2 x3 x4) (ldW1 harg6 x5 768 inb_S1728x2560_S256x2560_768_0) (ldW1 harg8 x7 768 inb_S1728x2560_S256x2560_768_0) (ldS1 harg7 x6 768 inb_S1x1728_S1x256_0_768) (ldS1 harg9 x8 768 inb_S1x1728_S1x256_0_768)) ?_ ?_
    · rfl
    obtain rfl : r = i := Fin.ext (by omega)
    exact stH_at (c := 768) (p := (par x2 x3 x4 x5 x6 x7 x8 x9 x10 1)) (a := fun r => (arow x0 1 r)) (x := fun r => (xrow x1 1 r)) (hp1 := rfl) (hs1 := rfl) (hp3 := rfl) (hs3 := rfl) (hsc := sn1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 512 256 256 (fun i j hr hk => ?_) fun q4 => ?_
  · refine at_eq (stH (namedRun.sl.r_141 (F := Ideal) c arg1 harg1 arg2 harg2 arg3 harg3 arg4 harg4 arg5 harg5 arg13 arg20 x0 x1 x2 x3 x4) (namedRun.sl.v2057 (F := Ideal) c arg1 harg1 arg2 harg2 arg3 harg3 arg4 harg4 arg5 harg5 arg13 arg15 arg20 x0 x1 x2 x3 x4) (ldW1 harg6 x5 512 inb_S1728x2560_S256x2560_512_0) (ldW1 harg8 x7 512 inb_S1728x2560_S256x2560_512_0) (ldS1 harg7 x6 512 inb_S1x1728_S1x256_0_512) (ldS1 harg9 x8 512 inb_S1x1728_S1x256_0_512)) ?_ ?_
    · rfl
    obtain rfl : r = i := Fin.ext (by omega)
    exact stH_at (c := 512) (p := (par x2 x3 x4 x5 x6 x7 x8 x9 x10 1)) (a := fun r => (arow x0 1 r)) (x := fun r => (xrow x1 1 r)) (hp1 := rfl) (hs1 := rfl) (hp3 := rfl) (hs3 := rfl) (hsc := sn1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 256 256 256 (fun i j hr hk => ?_) fun q5 => ?_
  · refine at_eq (stH (namedRun.sl.r_141 (F := Ideal) c arg1 harg1 arg2 harg2 arg3 harg3 arg4 harg4 arg5 harg5 arg13 arg20 x0 x1 x2 x3 x4) (namedRun.sl.v2057 (F := Ideal) c arg1 harg1 arg2 harg2 arg3 harg3 arg4 harg4 arg5 harg5 arg13 arg15 arg20 x0 x1 x2 x3 x4) (ldW1 harg6 x5 256 inb_S1728x2560_S256x2560_256_0) (ldW1 harg8 x7 256 inb_S1728x2560_S256x2560_256_0) (ldS1 harg7 x6 256 inb_S1x1728_S1x256_0_256) (ldS1 harg9 x8 256 inb_S1x1728_S1x256_0_256)) ?_ ?_
    · rfl
    obtain rfl : r = i := Fin.ext (by omega)
    exact stH_at (c := 256) (p := (par x2 x3 x4 x5 x6 x7 x8 x9 x10 1)) (a := fun r => (arow x0 1 r)) (x := fun r => (xrow x1 1 r)) (hp1 := rfl) (hs1 := rfl) (hp3 := rfl) (hs3 := rfl) (hsc := sn1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  refine step2 0 0 256 256 (fun i j hr hk => ?_) fun q6 => ?_
  · refine at_eq (stH (namedRun.sl.r_141 (F := Ideal) c arg1 harg1 arg2 harg2 arg3 harg3 arg4 harg4 arg5 harg5 arg13 arg20 x0 x1 x2 x3 x4) (namedRun.sl.v2057 (F := Ideal) c arg1 harg1 arg2 harg2 arg3 harg3 arg4 harg4 arg5 harg5 arg13 arg15 arg20 x0 x1 x2 x3 x4) (ldW1 harg6 x5 0 inb_S1728x2560_S256x2560_0_0) (ldW1 harg8 x7 0 inb_S1728x2560_S256x2560_0_0) (ldS1 harg7 x6 0 inb_S1x1728_S1x256_0_0) (ldS1 harg9 x8 0 inb_S1x1728_S1x256_0_0)) ?_ ?_
    · rfl
    obtain rfl : r = i := Fin.ext (by omega)
    exact stH_at (c := 0) (p := (par x2 x3 x4 x5 x6 x7 x8 x9 x10 1)) (a := fun r => (arow x0 1 r)) (x := fun r => (xrow x1 1 r)) (hp1 := rfl) (hs1 := rfl) (hp3 := rfl) (hs3 := rfl) (hsc := sn1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := nd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) ..
  omega

theorem hr1_0 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v2227 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 1) (arow x0 1 (0 + i.val)) (xrow x1 1 (0 + i.val))) k := by
  refine read2 0 0 32 1728 fun r' k' hr hk => ?_
  rw [h1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr1_32 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v2247 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 1) (arow x0 1 (32 + i.val)) (xrow x1 1 (32 + i.val))) k := by
  refine read2 32 0 32 1728 fun r' k' hr hk => ?_
  rw [h1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr1_64 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v2267 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 1) (arow x0 1 (64 + i.val)) (xrow x1 1 (64 + i.val))) k := by
  refine read2 64 0 32 1728 fun r' k' hr hk => ?_
  rw [h1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr1_96 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v2287 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 1) (arow x0 1 (96 + i.val)) (xrow x1 1 (96 + i.val))) k := by
  refine read2 96 0 32 1728 fun r' k' hr hk => ?_
  rw [h1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr1_128 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v2307 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 1) (arow x0 1 (128 + i.val)) (xrow x1 1 (128 + i.val))) k := by
  refine read2 128 0 32 1728 fun r' k' hr hk => ?_
  rw [h1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr1_160 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v2327 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 1) (arow x0 1 (160 + i.val)) (xrow x1 1 (160 + i.val))) k := by
  refine read2 160 0 32 1728 fun r' k' hr hk => ?_
  rw [h1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr1_192 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v2347 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 1) (arow x0 1 (192 + i.val)) (xrow x1 1 (192 + i.val))) k := by
  refine read2 192 0 32 1728 fun r' k' hr hk => ?_
  rw [h1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem hr1_224 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (i : Fin 32) (k : Fin 1728) : namedRun.sl.v2367 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 i k) = (rowH (par x2 x3 x4 x5 x6 x7 x8 x9 x10 1) (arow x0 1 (224 + i.val)) (xrow x1 1 (224 + i.val))) k := by
  refine read2 224 0 32 1728 fun r' k' hr hk => ?_
  rw [h1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega)]

theorem sh1 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) : namedRun.sl.r_161 (F := Ideal) c arg1 harg1 arg2 harg2 arg3 harg3 arg4 harg4 arg5 harg5 arg6 harg6 arg7 harg7 arg8 harg8 arg9 harg9 arg13 arg15 arg20 arg21 x0 x1 x2 x3 x4 x5 x6 x7 x8 (ix2 r 0) = rowScale (rowH (par x2 x3 x4 x5 x6 x7 x8 x9 x10 1) (arow x0 1 r.val) (xrow x1 1 r.val)) := by
  refine at_eq (k0_pay50 (F := Ideal) (stScale1728 (namedRun.sl.v2227 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v2247 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v2267 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v2287 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v2307 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v2327 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v2347 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) (stScale1728 (namedRun.sl.v2367 (F := Ideal) c arg1 harg1 arg2 harg2 arg3 harg3 arg4 harg4 arg5 harg5 arg6 harg6 arg7 harg7 arg8 harg8 arg9 harg9 arg13 arg15 arg20 arg21 x0 x1 x2 x3 x4 x5 x6 x7 x8))) ?_ ?_
  · rfl
  exact cat8_at _ _ _ _ _ _ _ _ (fun r => rowScale (rowH (par x2 x3 x4 x5 x6 x7 x8 x9 x10 1) (arow x0 1 r) (xrow x1 1 r))) (fun i => stScale1728_at _ i _ (hr1_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr1_32 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr1_64 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr1_96 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr1_128 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr1_160 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr1_192 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) (fun i => stScale1728_at _ i _ (hr1_224 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i)) r

theorem hc1 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (k : Fin 1728) : View.canon (namedRun.sl.HS2_16 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (ix2 r k) = rowCodes (rowH (par x2 x3 x4 x5 x6 x7 x8 x9 x10 1) (arow x0 1 r.val) (xrow x1 1 r.val)) k := by
  unfold namedRun.sl.HS2_16
  refine step2 224 0 32 1728 (fun i j hr hk => ?_) fun q0 => ?_
  · refine at_eq (pcH (namedRun.sl.v2367 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr1_224 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 192 0 32 1728 (fun i j hr hk => ?_) fun q1 => ?_
  · refine at_eq (pcH (namedRun.sl.v2347 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr1_192 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 160 0 32 1728 (fun i j hr hk => ?_) fun q2 => ?_
  · refine at_eq (pcH (namedRun.sl.v2327 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr1_160 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 128 0 32 1728 (fun i j hr hk => ?_) fun q3 => ?_
  · refine at_eq (pcH (namedRun.sl.v2307 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr1_128 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 96 0 32 1728 (fun i j hr hk => ?_) fun q4 => ?_
  · refine at_eq (pcH (namedRun.sl.v2287 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr1_96 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 64 0 32 1728 (fun i j hr hk => ?_) fun q5 => ?_
  · refine at_eq (pcH (namedRun.sl.v2267 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr1_64 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 32 0 32 1728 (fun i j hr hk => ?_) fun q6 => ?_
  · refine at_eq (pcH (namedRun.sl.v2247 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr1_32 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  refine step2 0 0 32 1728 (fun i j hr hk => ?_) fun q7 => ?_
  · refine at_eq (pcH (namedRun.sl.v2227 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    rw [hr]
    exact pcH_at _ i _ (hr1_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 i) j k hk
  omega

theorem hd1 (c : Dev nD) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg13 : Memref sig .tc .vmem S2x256x640 .fp8e4m3) (arg15 : Memref sig .tc .vmem S2x256x2560 .fp8e4m3) (arg20 : Memref sig .tc .vmem S256x2560 .f32) (arg21 : Memref sig .tc .vmem S256x1728 .f32) (arg22 : Memref sig .tc .vmem S256x1728 .fp8e4m3) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (r : Fin 256) (k : Fin 1728) : namedRun.sl.v2393 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8 (ix2 r k) = rowCodes (rowH (par x2 x3 x4 x5 x6 x7 x8 x9 x10 1) (arow x0 1 r.val) (xrow x1 1 r.val)) k := by
  refine read2 0 0 256 1728 fun r' k' hr hk => ?_
  rw [hc1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r' k', hr, show k' = k from Fin.ext (by omega), Nat.zero_add]

end Cert.KernelIdeal.Tail

end
-- ==== Proof.ValueOut.lean ====
/- What the body leaves in each output buffer, at an index. -/
module

public import proofs.«01_k».proof.Proof.ValueHidden

@[expose] public section

set_option maxRecDepth 16384
set_option maxHeartbeats 4000000

noncomputable section

namespace Cert.KernelIdeal.Tail

open Cert.KernelIdeal.Gen Cert.Tail
open Idealize.ShloMosaic Idealize.ShloMosaic.TcCoe Idealize.ShloMosaic.Tactic

theorem out11 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (b : Fin 2) (r : Fin 256) (k : Fin 2560) : View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).1 (ix3 b r k) = rowO (par x2 x3 x4 x5 x6 x7 x8 x9 x10 b.val) (arow x0 b.val r.val) (xrow x1 b.val r.val) k := by
  refine step3 1 0 2304 256 256 (fun i j hb hr hk => ?_) fun q0 => ?_
  · refine at_eq (stO (namedRun.sl.r_161 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v2393 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 2304 inb_S1728x2560_S1728x256_0_2304) (ldSo harg11 x10 2304 inb_S1x2560_S1x256_0_2304) (namedRun.sl.v2568 (F := Ideal) c arg1 harg1 arg2 harg2 arg3 harg3 arg4 harg4 arg5 harg5 arg13 arg20 x0 x1 x2 x3 x4) (ldM harg3 x2 5 1 2304 inb_S6x2x2560_S1x1x256_5_1_2304)) ?_ ?_
    · rfl
    obtain rfl : r = i := Fin.ext (by omega)
    rw [hb]
    exact stO_at (b := 1) (c := 2304) (hsc := sh1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc1_2304 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 1 0 2048 256 256 (fun i j hb hr hk => ?_) fun q1 => ?_
  · refine at_eq (stO (namedRun.sl.r_161 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v2393 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 2048 inb_S1728x2560_S1728x256_0_2048) (ldSo harg11 x10 2048 inb_S1x2560_S1x256_0_2048) (namedRun.sl.v2550 (F := Ideal) c arg1 harg1 arg2 harg2 arg3 harg3 arg4 harg4 arg5 harg5 arg13 arg20 x0 x1 x2 x3 x4) (ldM harg3 x2 5 1 2048 inb_S6x2x2560_S1x1x256_5_1_2048)) ?_ ?_
    · rfl
    obtain rfl : r = i := Fin.ext (by omega)
    rw [hb]
    exact stO_at (b := 1) (c := 2048) (hsc := sh1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc1_2048 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 1 0 1792 256 256 (fun i j hb hr hk => ?_) fun q2 => ?_
  · refine at_eq (stO (namedRun.sl.r_161 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v2393 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 1792 inb_S1728x2560_S1728x256_0_1792) (ldSo harg11 x10 1792 inb_S1x2560_S1x256_0_1792) (namedRun.sl.v2532 (F := Ideal) c arg1 harg1 arg2 harg2 arg3 harg3 arg4 harg4 arg5 harg5 arg13 arg20 x0 x1 x2 x3 x4) (ldM harg3 x2 5 1 1792 inb_S6x2x2560_S1x1x256_5_1_1792)) ?_ ?_
    · rfl
    obtain rfl : r = i := Fin.ext (by omega)
    rw [hb]
    exact stO_at (b := 1) (c := 1792) (hsc := sh1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc1_1792 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 1 0 1536 256 256 (fun i j hb hr hk => ?_) fun q3 => ?_
  · refine at_eq (stO (namedRun.sl.r_161 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v2393 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 1536 inb_S1728x2560_S1728x256_0_1536) (ldSo harg11 x10 1536 inb_S1x2560_S1x256_0_1536) (namedRun.sl.v2514 (F := Ideal) c arg1 harg1 arg2 harg2 arg3 harg3 arg4 harg4 arg5 harg5 arg13 arg20 x0 x1 x2 x3 x4) (ldM harg3 x2 5 1 1536 inb_S6x2x2560_S1x1x256_5_1_1536)) ?_ ?_
    · rfl
    obtain rfl : r = i := Fin.ext (by omega)
    rw [hb]
    exact stO_at (b := 1) (c := 1536) (hsc := sh1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc1_1536 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 1 0 1280 256 256 (fun i j hb hr hk => ?_) fun q4 => ?_
  · refine at_eq (stO (namedRun.sl.r_161 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v2393 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 1280 inb_S1728x2560_S1728x256_0_1280) (ldSo harg11 x10 1280 inb_S1x2560_S1x256_0_1280) (namedRun.sl.v2496 (F := Ideal) c arg1 harg1 arg2 harg2 arg3 harg3 arg4 harg4 arg5 harg5 arg13 arg20 x0 x1 x2 x3 x4) (ldM harg3 x2 5 1 1280 inb_S6x2x2560_S1x1x256_5_1_1280)) ?_ ?_
    · rfl
    obtain rfl : r = i := Fin.ext (by omega)
    rw [hb]
    exact stO_at (b := 1) (c := 1280) (hsc := sh1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc1_1280 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 1 0 1024 256 256 (fun i j hb hr hk => ?_) fun q5 => ?_
  · refine at_eq (stO (namedRun.sl.r_161 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v2393 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 1024 inb_S1728x2560_S1728x256_0_1024) (ldSo harg11 x10 1024 inb_S1x2560_S1x256_0_1024) (namedRun.sl.v2478 (F := Ideal) c arg1 harg1 arg2 harg2 arg3 harg3 arg4 harg4 arg5 harg5 arg13 arg20 x0 x1 x2 x3 x4) (ldM harg3 x2 5 1 1024 inb_S6x2x2560_S1x1x256_5_1_1024)) ?_ ?_
    · rfl
    obtain rfl : r = i := Fin.ext (by omega)
    rw [hb]
    exact stO_at (b := 1) (c := 1024) (hsc := sh1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc1_1024 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 1 0 768 256 256 (fun i j hb hr hk => ?_) fun q6 => ?_
  · refine at_eq (stO (namedRun.sl.r_161 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v2393 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 768 inb_S1728x2560_S1728x256_0_768) (ldSo harg11 x10 768 inb_S1x2560_S1x256_0_768) (namedRun.sl.v2460 (F := Ideal) c arg1 harg1 arg2 harg2 arg3 harg3 arg4 harg4 arg5 harg5 arg13 arg20 x0 x1 x2 x3 x4) (ldM harg3 x2 5 1 768 inb_S6x2x2560_S1x1x256_5_1_768)) ?_ ?_
    · rfl
    obtain rfl : r = i := Fin.ext (by omega)
    rw [hb]
    exact stO_at (b := 1) (c := 768) (hsc := sh1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc1_768 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 1 0 512 256 256 (fun i j hb hr hk => ?_) fun q7 => ?_
  · refine at_eq (stO (namedRun.sl.r_161 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v2393 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 512 inb_S1728x2560_S1728x256_0_512) (ldSo harg11 x10 512 inb_S1x2560_S1x256_0_512) (namedRun.sl.v2442 (F := Ideal) c arg1 harg1 arg2 harg2 arg3 harg3 arg4 harg4 arg5 harg5 arg13 arg20 x0 x1 x2 x3 x4) (ldM harg3 x2 5 1 512 inb_S6x2x2560_S1x1x256_5_1_512)) ?_ ?_
    · rfl
    obtain rfl : r = i := Fin.ext (by omega)
    rw [hb]
    exact stO_at (b := 1) (c := 512) (hsc := sh1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc1_512 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 1 0 256 256 256 (fun i j hb hr hk => ?_) fun q8 => ?_
  · refine at_eq (stO (namedRun.sl.r_161 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v2393 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 256 inb_S1728x2560_S1728x256_0_256) (ldSo harg11 x10 256 inb_S1x2560_S1x256_0_256) (namedRun.sl.v2424 (F := Ideal) c arg1 harg1 arg2 harg2 arg3 harg3 arg4 harg4 arg5 harg5 arg13 arg20 x0 x1 x2 x3 x4) (ldM harg3 x2 5 1 256 inb_S6x2x2560_S1x1x256_5_1_256)) ?_ ?_
    · rfl
    obtain rfl : r = i := Fin.ext (by omega)
    rw [hb]
    exact stO_at (b := 1) (c := 256) (hsc := sh1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc1_256 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 1 0 0 256 256 (fun i j hb hr hk => ?_) fun q9 => ?_
  · refine at_eq (stO (namedRun.sl.r_161 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v2393 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 0 inb_S1728x2560_S1728x256_0_0) (ldSo harg11 x10 0 inb_S1x2560_S1x256_0_0) (namedRun.sl.v2406 (F := Ideal) c arg1 harg1 arg2 harg2 arg3 harg3 arg4 harg4 arg5 harg5 arg13 arg20 x0 x1 x2 x3 x4) (ldM harg3 x2 5 1 0 inb_S6x2x2560_S1x1x256_5_1_0)) ?_ ?_
    · rfl
    obtain rfl : r = i := Fin.ext (by omega)
    rw [hb]
    exact stO_at (b := 1) (c := 0) (hsc := sh1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc1_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 0 0 2304 256 256 (fun i j hb hr hk => ?_) fun q10 => ?_
  · refine at_eq (stO (namedRun.sl.r_78 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v1104 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 2304 inb_S1728x2560_S1728x256_0_2304) (ldSo harg11 x10 2304 inb_S1x2560_S1x256_0_2304) (namedRun.sl.v1279 (F := Ideal) c arg1 harg1 arg2 harg2 arg3 harg3 arg4 harg4 arg5 harg5 arg13 arg20 x0 x1 x2 x3 x4) (ldM harg3 x2 5 0 2304 inb_S6x2x2560_S1x1x256_5_0_2304)) ?_ ?_
    · rfl
    obtain rfl : r = i := Fin.ext (by omega)
    rw [hb]
    exact stO_at (b := 0) (c := 2304) (hsc := sh0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc0_2304 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 0 0 2048 256 256 (fun i j hb hr hk => ?_) fun q11 => ?_
  · refine at_eq (stO (namedRun.sl.r_78 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v1104 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 2048 inb_S1728x2560_S1728x256_0_2048) (ldSo harg11 x10 2048 inb_S1x2560_S1x256_0_2048) (namedRun.sl.v1261 (F := Ideal) c arg1 harg1 arg2 harg2 arg3 harg3 arg4 harg4 arg5 harg5 arg13 arg20 x0 x1 x2 x3 x4) (ldM harg3 x2 5 0 2048 inb_S6x2x2560_S1x1x256_5_0_2048)) ?_ ?_
    · rfl
    obtain rfl : r = i := Fin.ext (by omega)
    rw [hb]
    exact stO_at (b := 0) (c := 2048) (hsc := sh0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc0_2048 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 0 0 1792 256 256 (fun i j hb hr hk => ?_) fun q12 => ?_
  · refine at_eq (stO (namedRun.sl.r_78 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v1104 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 1792 inb_S1728x2560_S1728x256_0_1792) (ldSo harg11 x10 1792 inb_S1x2560_S1x256_0_1792) (namedRun.sl.v1243 (F := Ideal) c arg1 harg1 arg2 harg2 arg3 harg3 arg4 harg4 arg5 harg5 arg13 arg20 x0 x1 x2 x3 x4) (ldM harg3 x2 5 0 1792 inb_S6x2x2560_S1x1x256_5_0_1792)) ?_ ?_
    · rfl
    obtain rfl : r = i := Fin.ext (by omega)
    rw [hb]
    exact stO_at (b := 0) (c := 1792) (hsc := sh0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc0_1792 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 0 0 1536 256 256 (fun i j hb hr hk => ?_) fun q13 => ?_
  · refine at_eq (stO (namedRun.sl.r_78 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v1104 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 1536 inb_S1728x2560_S1728x256_0_1536) (ldSo harg11 x10 1536 inb_S1x2560_S1x256_0_1536) (namedRun.sl.v1225 (F := Ideal) c arg1 harg1 arg2 harg2 arg3 harg3 arg4 harg4 arg5 harg5 arg13 arg20 x0 x1 x2 x3 x4) (ldM harg3 x2 5 0 1536 inb_S6x2x2560_S1x1x256_5_0_1536)) ?_ ?_
    · rfl
    obtain rfl : r = i := Fin.ext (by omega)
    rw [hb]
    exact stO_at (b := 0) (c := 1536) (hsc := sh0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc0_1536 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 0 0 1280 256 256 (fun i j hb hr hk => ?_) fun q14 => ?_
  · refine at_eq (stO (namedRun.sl.r_78 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v1104 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 1280 inb_S1728x2560_S1728x256_0_1280) (ldSo harg11 x10 1280 inb_S1x2560_S1x256_0_1280) (namedRun.sl.v1207 (F := Ideal) c arg1 harg1 arg2 harg2 arg3 harg3 arg4 harg4 arg5 harg5 arg13 arg20 x0 x1 x2 x3 x4) (ldM harg3 x2 5 0 1280 inb_S6x2x2560_S1x1x256_5_0_1280)) ?_ ?_
    · rfl
    obtain rfl : r = i := Fin.ext (by omega)
    rw [hb]
    exact stO_at (b := 0) (c := 1280) (hsc := sh0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc0_1280 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 0 0 1024 256 256 (fun i j hb hr hk => ?_) fun q15 => ?_
  · refine at_eq (stO (namedRun.sl.r_78 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v1104 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 1024 inb_S1728x2560_S1728x256_0_1024) (ldSo harg11 x10 1024 inb_S1x2560_S1x256_0_1024) (namedRun.sl.v1189 (F := Ideal) c arg1 harg1 arg2 harg2 arg3 harg3 arg4 harg4 arg5 harg5 arg13 arg20 x0 x1 x2 x3 x4) (ldM harg3 x2 5 0 1024 inb_S6x2x2560_S1x1x256_5_0_1024)) ?_ ?_
    · rfl
    obtain rfl : r = i := Fin.ext (by omega)
    rw [hb]
    exact stO_at (b := 0) (c := 1024) (hsc := sh0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc0_1024 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 0 0 768 256 256 (fun i j hb hr hk => ?_) fun q16 => ?_
  · refine at_eq (stO (namedRun.sl.r_78 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v1104 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 768 inb_S1728x2560_S1728x256_0_768) (ldSo harg11 x10 768 inb_S1x2560_S1x256_0_768) (namedRun.sl.v1171 (F := Ideal) c arg1 harg1 arg2 harg2 arg3 harg3 arg4 harg4 arg5 harg5 arg13 arg20 x0 x1 x2 x3 x4) (ldM harg3 x2 5 0 768 inb_S6x2x2560_S1x1x256_5_0_768)) ?_ ?_
    · rfl
    obtain rfl : r = i := Fin.ext (by omega)
    rw [hb]
    exact stO_at (b := 0) (c := 768) (hsc := sh0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc0_768 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 0 0 512 256 256 (fun i j hb hr hk => ?_) fun q17 => ?_
  · refine at_eq (stO (namedRun.sl.r_78 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v1104 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 512 inb_S1728x2560_S1728x256_0_512) (ldSo harg11 x10 512 inb_S1x2560_S1x256_0_512) (namedRun.sl.v1153 (F := Ideal) c arg1 harg1 arg2 harg2 arg3 harg3 arg4 harg4 arg5 harg5 arg13 arg20 x0 x1 x2 x3 x4) (ldM harg3 x2 5 0 512 inb_S6x2x2560_S1x1x256_5_0_512)) ?_ ?_
    · rfl
    obtain rfl : r = i := Fin.ext (by omega)
    rw [hb]
    exact stO_at (b := 0) (c := 512) (hsc := sh0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc0_512 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 0 0 256 256 256 (fun i j hb hr hk => ?_) fun q18 => ?_
  · refine at_eq (stO (namedRun.sl.r_78 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v1104 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 256 inb_S1728x2560_S1728x256_0_256) (ldSo harg11 x10 256 inb_S1x2560_S1x256_0_256) (namedRun.sl.v1135 (F := Ideal) c arg1 harg1 arg2 harg2 arg3 harg3 arg4 harg4 arg5 harg5 arg13 arg20 x0 x1 x2 x3 x4) (ldM harg3 x2 5 0 256 inb_S6x2x2560_S1x1x256_5_0_256)) ?_ ?_
    · rfl
    obtain rfl : r = i := Fin.ext (by omega)
    rw [hb]
    exact stO_at (b := 0) (c := 256) (hsc := sh0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc0_256 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  refine step3 0 0 0 256 256 (fun i j hb hr hk => ?_) fun q19 => ?_
  · refine at_eq (stO (namedRun.sl.r_78 (F := Ideal) c arg1 harg1 arg2 harg2 arg3 harg3 arg4 harg4 arg5 harg5 arg6 harg6 arg7 harg7 arg8 harg8 arg9 harg9 arg13 arg15 arg20 arg21 x0 x1 x2 x3 x4 x5 x6 x7 x8) (namedRun.sl.v1104 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8) (ldW2 harg10 x9 0 inb_S1728x2560_S1728x256_0_0) (ldSo harg11 x10 0 inb_S1x2560_S1x256_0_0) (namedRun.sl.v1117 (F := Ideal) c arg1 harg1 arg2 harg2 arg3 harg3 arg4 harg4 arg5 harg5 arg13 arg20 x0 x1 x2 x3 x4) (ldM harg3 x2 5 0 0 inb_S6x2x2560_S1x1x256_5_0_0)) ?_ ?_
    · rfl
    obtain rfl : r = i := Fin.ext (by omega)
    rw [hb]
    exact stO_at (b := 0) (c := 0) (hsc := sh0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (hcd := hd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10) (r := r) (k := j) (l := k) (hl := hk) (hy := yc0_0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r j k hk) ..
  omega

theorem out12 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (b : Fin 2) (r : Fin 256) (k : Fin 640) : View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.1 (ix3 b r k) = rowCodes (arow x0 b.val r.val) k := by
  exact c12_1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 b r k

theorem out13 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (b : Fin 2) (r : Fin 256) : View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.1 (ix2 b r) = rowScale (arow x0 b.val r.val) := by
  refine step2 1 0 1 256 (fun i j hb hr => ?_) fun q0 => ?_
  · refine at_eq (stRow (namedRun.sl.r_109 (F := Ideal) c arg1 harg1 x0)) ?_ ?_
    · rfl
    obtain rfl : r = j := Fin.ext (by omega)
    obtain rfl : i = 0 := Subsingleton.elim _ _
    rw [show b.val = 1 by simpa using hb, stRow_at]
    exact sa1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r
  refine step2 0 0 1 256 (fun i j hb hr => ?_) fun q1 => ?_
  · refine at_eq (stRow (namedRun.sl.r_27 (F := Ideal) c arg1 harg1 x0)) ?_ ?_
    · rfl
    obtain rfl : r = j := Fin.ext (by omega)
    obtain rfl : i = 0 := Subsingleton.elim _ _
    rw [show b.val = 0 by simpa using hb, stRow_at]
    exact sa0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r
  omega

theorem out14 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (b : Fin 2) (r : Fin 256) (k : Fin 2560) : View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.1 (ix3 b r k) = rowCodes (rowN (par x2 x3 x4 x5 x6 x7 x8 x9 x10 b.val) (arow x0 b.val r.val) (xrow x1 b.val r.val)) k := by
  exact c14_1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 b r k

theorem out15 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (b : Fin 2) (r : Fin 256) : View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.1 (ix2 b r) = rowScale (rowN (par x2 x3 x4 x5 x6 x7 x8 x9 x10 b.val) (arow x0 b.val r.val) (xrow x1 b.val r.val)) := by
  refine step2 1 0 1 256 (fun i j hb hr => ?_) fun q0 => ?_
  · refine at_eq (stRow (namedRun.sl.r_141 (F := Ideal) c arg1 harg1 arg2 harg2 arg3 harg3 arg4 harg4 arg5 harg5 arg13 arg20 x0 x1 x2 x3 x4)) ?_ ?_
    · rfl
    obtain rfl : r = j := Fin.ext (by omega)
    obtain rfl : i = 0 := Subsingleton.elim _ _
    rw [show b.val = 1 by simpa using hb, stRow_at]
    exact sn1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r
  refine step2 0 0 1 256 (fun i j hb hr => ?_) fun q1 => ?_
  · refine at_eq (stRow (namedRun.sl.r_56 (F := Ideal) c arg1 harg1 arg2 harg2 arg3 harg3 arg4 harg4 arg5 harg5 arg13 arg20 x0 x1 x2 x3 x4)) ?_ ?_
    · rfl
    obtain rfl : r = j := Fin.ext (by omega)
    obtain rfl : i = 0 := Subsingleton.elim _ _
    rw [show b.val = 0 by simpa using hb, stRow_at]
    exact sn0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r
  omega

theorem out16 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (b : Fin 2) (k : Fin 1728) (r : Fin 256) : View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.2.1 (ix3 b k r) = rowCodes (rowH (par x2 x3 x4 x5 x6 x7 x8 x9 x10 b.val) (arow x0 b.val r.val) (xrow x1 b.val r.val)) k := by
  refine step3 1 0 0 1728 256 (fun i j hb hk hr => ?_) fun q0 => ?_
  · refine at_eq (k0_pay140 (F := Ideal) (namedRun.sl.v2393 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8)) ?_ ?_
    · rfl
    obtain rfl : r = j := Fin.ext (by omega)
    obtain rfl : k = i := Fin.ext (by omega)
    rw [hb, pcT_at]
    exact hd1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r k
  refine step3 0 0 0 1728 256 (fun i j hb hk hr => ?_) fun q1 => ?_
  · refine at_eq (k0_pay140 (F := Ideal) (namedRun.sl.v1104 (F := Ideal) c arg1 harg1 arg2 harg2 arg3 harg3 arg4 harg4 arg5 harg5 arg6 harg6 arg7 harg7 arg8 harg8 arg9 harg9 arg13 arg15 arg20 arg21 arg22 x0 x1 x2 x3 x4 x5 x6 x7 x8)) ?_ ?_
    · rfl
    obtain rfl : r = j := Fin.ext (by omega)
    obtain rfl : k = i := Fin.ext (by omega)
    rw [hb, pcT_at]
    exact hd0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r k
  omega

theorem out17 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (b : Fin 2) (r : Fin 256) : View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.2.2.1 (ix2 b r) = rowScale (rowH (par x2 x3 x4 x5 x6 x7 x8 x9 x10 b.val) (arow x0 b.val r.val) (xrow x1 b.val r.val)) := by
  refine step2 1 0 1 256 (fun i j hb hr => ?_) fun q0 => ?_
  · refine at_eq (stRow (namedRun.sl.r_161 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    obtain rfl : r = j := Fin.ext (by omega)
    obtain rfl : i = 0 := Subsingleton.elim _ _
    rw [show b.val = 1 by simpa using hb, stRow_at]
    exact sh1 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r
  refine step2 0 0 1 256 (fun i j hb hr => ?_) fun q1 => ?_
  · refine at_eq (stRow (namedRun.sl.r_78 (F := Ideal) c arg1 harg1 arg2 harg2 arg3 harg3 arg4 harg4 arg5 harg5 arg6 harg6 arg7 harg7 arg8 harg8 arg9 harg9 arg13 arg15 arg20 arg21 x0 x1 x2 x3 x4 x5 x6 x7 x8)) ?_ ?_
    · rfl
    obtain rfl : r = j := Fin.ext (by omega)
    obtain rfl : i = 0 := Subsingleton.elim _ _
    rw [show b.val = 0 by simpa using hb, stRow_at]
    exact sh0 c arg1 harg1 arg2 harg2 arg3 harg3 arg4 harg4 arg5 harg5 arg6 harg6 arg7 harg7 arg8 harg8 arg9 harg9 arg10 harg10 arg11 harg11 arg13 arg15 arg20 arg21 arg22 x0 x1 x2 x3 x4 x5 x6 x7 x8 x9 x10 r
  omega

theorem out18 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole) (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32)
    (b : Fin 2) (r : Fin 256) (k : Fin 640) : View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.2.2.2.1 (ix3 b r k) = (arow x0 b.val r.val) k := by
  refine step3 1 224 0 32 640 (fun i j hb hr hk => ?_) fun q0 => ?_
  · refine at_eq (k0_pay5 (F := Ideal) (aB harg1 x0 1 224 (by decide) (by decide))) ?_ (pcAtt_at harg1 x0 1 224 (by decide) (by decide) i j _ _ _ hb hr hk)
    rfl
  refine step3 1 192 0 32 640 (fun i j hb hr hk => ?_) fun q1 => ?_
  · refine at_eq (k0_pay5 (F := Ideal) (aB harg1 x0 1 192 (by decide) (by decide))) ?_ (pcAtt_at harg1 x0 1 192 (by decide) (by decide) i j _ _ _ hb hr hk)
    rfl
  refine step3 1 160 0 32 640 (fun i j hb hr hk => ?_) fun q2 => ?_
  · refine at_eq (k0_pay5 (F := Ideal) (aB harg1 x0 1 160 (by decide) (by decide))) ?_ (pcAtt_at harg1 x0 1 160 (by decide) (by decide) i j _ _ _ hb hr hk)
    rfl
  refine step3 1 128 0 32 640 (fun i j hb hr hk => ?_) fun q3 => ?_
  · refine at_eq (k0_pay5 (F := Ideal) (aB harg1 x0 1 128 (by decide) (by decide))) ?_ (pcAtt_at harg1 x0 1 128 (by decide) (by decide) i j _ _ _ hb hr hk)
    rfl
  refine step3 1 96 0 32 640 (fun i j hb hr hk => ?_) fun q4 => ?_
  · refine at_eq (k0_pay5 (F := Ideal) (aB harg1 x0 1 96 (by decide) (by decide))) ?_ (pcAtt_at harg1 x0 1 96 (by decide) (by decide) i j _ _ _ hb hr hk)
    rfl
  refine step3 1 64 0 32 640 (fun i j hb hr hk => ?_) fun q5 => ?_
  · refine at_eq (k0_pay5 (F := Ideal) (aB harg1 x0 1 64 (by decide) (by decide))) ?_ (pcAtt_at harg1 x0 1 64 (by decide) (by decide) i j _ _ _ hb hr hk)
    rfl
  refine step3 1 32 0 32 640 (fun i j hb hr hk => ?_) fun q6 => ?_
  · refine at_eq (k0_pay5 (F := Ideal) (aB harg1 x0 1 32 (by decide) (by decide))) ?_ (pcAtt_at harg1 x0 1 32 (by decide) (by decide) i j _ _ _ hb hr hk)
    rfl
  refine step3 1 0 0 32 640 (fun i j hb hr hk => ?_) fun q7 => ?_
  · refine at_eq (k0_pay5 (F := Ideal) (aB harg1 x0 1 0 (by decide) (by decide))) ?_ (pcAtt_at harg1 x0 1 0 (by decide) (by decide) i j _ _ _ hb hr hk)
    rfl
  refine step3 0 224 0 32 640 (fun i j hb hr hk => ?_) fun q8 => ?_
  · refine at_eq (k0_pay5 (F := Ideal) (aB harg1 x0 0 224 (by decide) (by decide))) ?_ (pcAtt_at harg1 x0 0 224 (by decide) (by decide) i j _ _ _ hb hr hk)
    rfl
  refine step3 0 192 0 32 640 (fun i j hb hr hk => ?_) fun q9 => ?_
  · refine at_eq (k0_pay5 (F := Ideal) (aB harg1 x0 0 192 (by decide) (by decide))) ?_ (pcAtt_at harg1 x0 0 192 (by decide) (by decide) i j _ _ _ hb hr hk)
    rfl
  refine step3 0 160 0 32 640 (fun i j hb hr hk => ?_) fun q10 => ?_
  · refine at_eq (k0_pay5 (F := Ideal) (aB harg1 x0 0 160 (by decide) (by decide))) ?_ (pcAtt_at harg1 x0 0 160 (by decide) (by decide) i j _ _ _ hb hr hk)
    rfl
  refine step3 0 128 0 32 640 (fun i j hb hr hk => ?_) fun q11 => ?_
  · refine at_eq (k0_pay5 (F := Ideal) (aB harg1 x0 0 128 (by decide) (by decide))) ?_ (pcAtt_at harg1 x0 0 128 (by decide) (by decide) i j _ _ _ hb hr hk)
    rfl
  refine step3 0 96 0 32 640 (fun i j hb hr hk => ?_) fun q12 => ?_
  · refine at_eq (k0_pay5 (F := Ideal) (aB harg1 x0 0 96 (by decide) (by decide))) ?_ (pcAtt_at harg1 x0 0 96 (by decide) (by decide) i j _ _ _ hb hr hk)
    rfl
  refine step3 0 64 0 32 640 (fun i j hb hr hk => ?_) fun q13 => ?_
  · refine at_eq (k0_pay5 (F := Ideal) (aB harg1 x0 0 64 (by decide) (by decide))) ?_ (pcAtt_at harg1 x0 0 64 (by decide) (by decide) i j _ _ _ hb hr hk)
    rfl
  refine step3 0 32 0 32 640 (fun i j hb hr hk => ?_) fun q14 => ?_
  · refine at_eq (k0_pay5 (F := Ideal) (aB harg1 x0 0 32 (by decide) (by decide))) ?_ (pcAtt_at harg1 x0 0 32 (by decide) (by decide) i j _ _ _ hb hr hk)
    rfl
  refine step3 0 0 0 32 640 (fun i j hb hr hk => ?_) fun q15 => ?_
  · refine at_eq (k0_pay5 (F := Ideal) (aB harg1 x0 0 0 (by decide) (by decide))) ?_ (pcAtt_at harg1 x0 0 0 (by decide) (by decide) i j _ _ _ hb hr hk)
    rfl
  omega

end Cert.KernelIdeal.Tail

end
-- ==== Proof.ValueRun.lean ====
/- The body's run at real numbers: on whole buffers it leaves in each output the row functions of `Rows` of what it read. -/
module

public import proofs.«01_k».proof.Proof.ValueOut
public import Idealize.ShloMosaic.Lib.Ring

@[expose] public section

set_option maxRecDepth 16384

noncomputable section

namespace Cert.KernelIdeal.Tail

open Cert.KernelIdeal.Gen Cert.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## What the body leaves in each output's block -/

/-- Output 11: the stream after both residuals. -/
def F11 (P : ℕ → Par) (x0 : Vec Ideal S2x5x256x128 .f32) (x1 : Vec Ideal S2x256x2560 .bf16) : Vec Ideal S2x256x2560 .bf16 :=
  fun j => rowO (P (j 0).val) (arow x0 (j 0).val (j 1).val) (xrow x1 (j 0).val (j 1).val) (j 2)

/-- Output 12: the attention rows' codes. -/
def F12 (P : ℕ → Par) (x0 : Vec Ideal S2x5x256x128 .f32) (x1 : Vec Ideal S2x256x2560 .bf16) : Vec Ideal S2x256x640 .fp8e4m3 :=
  fun j => rowCodes (arow x0 (j 0).val (j 1).val) (j 2)

/-- Output 13: the attention rows' scales. -/
def F13 (P : ℕ → Par) (x0 : Vec Ideal S2x5x256x128 .f32) (x1 : Vec Ideal S2x256x2560 .bf16) : Vec Ideal S2x256 .f32 :=
  fun j => rowScale (arow x0 (j 0).val (j 1).val)

/-- Output 14: the normed rows' codes. -/
def F14 (P : ℕ → Par) (x0 : Vec Ideal S2x5x256x128 .f32) (x1 : Vec Ideal S2x256x2560 .bf16) : Vec Ideal S2x256x2560 .fp8e4m3 :=
  fun j => rowCodes (rowN (P (j 0).val) (arow x0 (j 0).val (j 1).val) (xrow x1 (j 0).val (j 1).val)) (j 2)

/-- Output 15: the normed rows' scales. -/
def F15 (P : ℕ → Par) (x0 : Vec Ideal S2x5x256x128 .f32) (x1 : Vec Ideal S2x256x2560 .bf16) : Vec Ideal S2x256 .f32 :=
  fun j => rowScale (rowN (P (j 0).val) (arow x0 (j 0).val (j 1).val) (xrow x1 (j 0).val (j 1).val))

/-- Output 16: the hidden rows' codes, transposed. -/
def F16 (P : ℕ → Par) (x0 : Vec Ideal S2x5x256x128 .f32) (x1 : Vec Ideal S2x256x2560 .bf16) : Vec Ideal S2x1728x256 .fp8e4m3 :=
  fun j => rowCodes (rowH (P (j 0).val) (arow x0 (j 0).val (j 2).val) (xrow x1 (j 0).val (j 2).val)) (j 1)

/-- Output 17: the hidden rows' scales. -/
def F17 (P : ℕ → Par) (x0 : Vec Ideal S2x5x256x128 .f32) (x1 : Vec Ideal S2x256x2560 .bf16) : Vec Ideal S2x256 .f32 :=
  fun j => rowScale (rowH (P (j 0).val) (arow x0 (j 0).val (j 1).val) (xrow x1 (j 0).val (j 1).val))

/-- Output 18: the attention rows. -/
def F18 (P : ℕ → Par) (x0 : Vec Ideal S2x5x256x128 .f32) (x1 : Vec Ideal S2x256x2560 .bf16) : Vec Ideal S2x256x640 .bf16 :=
  fun j => arow x0 (j 0).val (j 1).val (j 2)

/-! ## The pieces cover their blocks and read as those -/

theorem cover11 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) (y : S2x256x2560.Idx) :
    ∃ pc ∈ (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).1, y ∈ pc.1.set :=
  View.cover_of_tiledL (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).1 S1x256x256.size (by sl_kernel_rfl) y

theorem canon11 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) :
    View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).1 = F11 (par x2 x3 x4 x5 x6 x7 x8 x9 x10) x0 x1 := by
  funext j
  conv_lhs => rw [← ix3_eta j]
  exact out11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (j 0) (j 1) (j 2)

theorem cover12 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) (y : S2x256x640.Idx) :
    ∃ pc ∈ (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.1, y ∈ pc.1.set :=
  View.cover_of_tiledL (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.1 S1x32x640.size (by sl_kernel_rfl) y

theorem canon12 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) :
    View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.1 = F12 (par x2 x3 x4 x5 x6 x7 x8 x9 x10) x0 x1 := by
  funext j
  conv_lhs => rw [← ix3_eta j]
  exact out12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (j 0) (j 1) (j 2)

theorem cover13 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) (y : S2x256.Idx) :
    ∃ pc ∈ (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.1, y ∈ pc.1.set :=
  View.cover_of_tiledL (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.1 S1x256.size (by sl_kernel_rfl) y

theorem canon13 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) :
    View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.1 = F13 (par x2 x3 x4 x5 x6 x7 x8 x9 x10) x0 x1 := by
  funext j
  conv_lhs => rw [← ix2_eta j]
  exact out13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (j 0) (j 1)

theorem cover14 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) (y : S2x256x2560.Idx) :
    ∃ pc ∈ (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.1, y ∈ pc.1.set :=
  View.cover_of_tiledL (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.1 S1x32x2560.size (by sl_kernel_rfl) y

theorem canon14 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) :
    View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.1 = F14 (par x2 x3 x4 x5 x6 x7 x8 x9 x10) x0 x1 := by
  funext j
  conv_lhs => rw [← ix3_eta j]
  exact out14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (j 0) (j 1) (j 2)

theorem cover15 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) (y : S2x256.Idx) :
    ∃ pc ∈ (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.1, y ∈ pc.1.set :=
  View.cover_of_tiledL (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.1 S1x256.size (by sl_kernel_rfl) y

theorem canon15 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) :
    View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.1 = F15 (par x2 x3 x4 x5 x6 x7 x8 x9 x10) x0 x1 := by
  funext j
  conv_lhs => rw [← ix2_eta j]
  exact out15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (j 0) (j 1)

theorem cover16 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) (y : S2x1728x256.Idx) :
    ∃ pc ∈ (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.2.1, y ∈ pc.1.set :=
  View.cover_of_tiledL (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.2.1 S1x1728x256.size (by sl_kernel_rfl) y

theorem canon16 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) :
    View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.2.1 = F16 (par x2 x3 x4 x5 x6 x7 x8 x9 x10) x0 x1 := by
  funext j
  conv_lhs => rw [← ix3_eta j]
  exact out16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (j 0) (j 1) (j 2)

theorem cover17 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) (y : S2x256.Idx) :
    ∃ pc ∈ (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.2.2.1, y ∈ pc.1.set :=
  View.cover_of_tiledL (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.2.2.1 S1x256.size (by sl_kernel_rfl) y

theorem canon17 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) :
    View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.2.2.1 = F17 (par x2 x3 x4 x5 x6 x7 x8 x9 x10) x0 x1 := by
  funext j
  conv_lhs => rw [← ix2_eta j]
  exact out17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (j 0) (j 1)

theorem cover18 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) (y : S2x256x640.Idx) :
    ∃ pc ∈ (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.2.2.2.1, y ∈ pc.1.set :=
  View.cover_of_tiledL (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.2.2.2.1 S1x32x640.size (by sl_kernel_rfl) y

theorem canon18 (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) :
    View.canon (namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.2.2.2.1 = F18 (par x2 x3 x4 x5 x6 x7 x8 x9 x10) x0 x1 := by
  funext j
  conv_lhs => rw [← ix3_eta j]
  exact out18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (j 0) (j 1) (j 2)

/-! ## The run -/

/-- Pieces that cover a buffer leave it at what they read as. -/
theorem owns_of_pieces {c : Dev nD} {sp : Space} {s : Shape} {e : EltTy} (M : Memref sig .tc sp s e)
    (L : List (View.Piece (Elt Ideal) s e)) (X : s.Idx → Elt Ideal e) (hc : ∀ y : s.Idx, ∃ pc ∈ L, y ∈ pc.1.set)
    (hX : View.canon L = X) :
    (iprop(∃ f, M.view.loc (c : Thread nD τ) ↦[M.view.set]{fullShare} M.view.writes (Elt Ideal) f L) : sProp 𝕄)
      ⊢ owns (c : Thread nD τ) M fullShare X := by
  iintro ⟨%f, H⟩
  unfold owns
  iexists _
  isplitr
  · ipureintro; exact (View.read_writes_eq_canon M.view f L hc).trans hX
  · iexact H

/-- Whatever was written, the buffer is owned at some contents. -/
theorem owns_of_written {c : Dev nD} {sp : Space} {s : Shape} {e : EltTy} (M : Memref sig .tc sp s e)
    (L : List (View.Piece (Elt Ideal) s e)) :
    (iprop(∃ f, M.view.loc (c : Thread nD τ) ↦[M.view.set]{fullShare} M.view.writes (Elt Ideal) f L) : sProp 𝕄)
      ⊢ iprop(∃ d, owns (c : Thread nD τ) M fullShare d) := by
  iintro ⟨%f, H⟩
  unfold owns
  iexists M.view.read (Elt Ideal) (M.view.writes (Elt Ideal) f L); iexists M.view.writes (Elt Ideal) f L
  isplitr
  · ipureintro; rfl
  · iexact H

set_option maxHeartbeats 4000000 in
/-- The body on whole buffers, the inputs at their contents: it runs, hands the inputs back as they were, and leaves each
    output at its row function. -/
theorem valueRun (c : Dev nD) (i : grid0.Coords) (arg1 : Memref sig .tc .vmem S2x5x256x128 .f32) (harg1 : arg1.IsWhole) (arg2 : Memref sig .tc .vmem S2x256x2560 .bf16) (harg2 : arg2.IsWhole) (arg3 : Memref sig .tc .vmem S6x2x2560 .f32) (harg3 : arg3.IsWhole) (arg4 : Memref sig .tc .vmem S640x2560 .fp8e4m3) (harg4 : arg4.IsWhole) (arg5 : Memref sig .tc .vmem S1x2560 .f32) (harg5 : arg5.IsWhole) (arg6 : Memref sig .tc .vmem S1728x2560 .fp8e4m3) (harg6 : arg6.IsWhole) (arg7 : Memref sig .tc .vmem S1x1728 .f32) (harg7 : arg7.IsWhole) (arg8 : Memref sig .tc .vmem S1728x2560 .fp8e4m3) (harg8 : arg8.IsWhole) (arg9 : Memref sig .tc .vmem S1x1728 .f32) (harg9 : arg9.IsWhole) (arg10 : Memref sig .tc .vmem S1728x2560 .fp8e4m3) (harg10 : arg10.IsWhole) (arg11 : Memref sig .tc .vmem S1x2560 .f32) (harg11 : arg11.IsWhole) (arg12 : Memref sig .tc .vmem S2x256x2560 .bf16) (harg12 : arg12.IsWhole) (arg13 : Memref sig .tc .vmem S2x256x640 .fp8e4m3) (harg13 : arg13.IsWhole) (arg14 : Memref sig .tc .vmem S2x256 .f32) (harg14 : arg14.IsWhole) (arg15 : Memref sig .tc .vmem S2x256x2560 .fp8e4m3) (harg15 : arg15.IsWhole) (arg16 : Memref sig .tc .vmem S2x256 .f32) (harg16 : arg16.IsWhole) (arg17 : Memref sig .tc .vmem S2x1728x256 .fp8e4m3) (harg17 : arg17.IsWhole) (arg18 : Memref sig .tc .vmem S2x256 .f32) (harg18 : arg18.IsWhole) (arg19 : Memref sig .tc .vmem S2x256x640 .bf16) (harg19 : arg19.IsWhole) (arg20 : Memref sig .tc .vmem S256x2560 .f32) (harg20 : arg20.IsWhole) (arg21 : Memref sig .tc .vmem S256x1728 .f32) (harg21 : arg21.IsWhole) (arg22 : Memref sig .tc .vmem S256x1728 .fp8e4m3) (harg22 : arg22.IsWhole)
    (x0 : Vec Ideal S2x5x256x128 .f32) (x1 : Vec Ideal S2x256x2560 .bf16) (x2 : Vec Ideal S6x2x2560 .f32) (x3 : Vec Ideal S640x2560 .fp8e4m3) (x4 : Vec Ideal S1x2560 .f32) (x5 : Vec Ideal S1728x2560 .fp8e4m3) (x6 : Vec Ideal S1x1728 .f32) (x7 : Vec Ideal S1728x2560 .fp8e4m3) (x8 : Vec Ideal S1x1728 .f32) (x9 : Vec Ideal S1728x2560 .fp8e4m3) (x10 : Vec Ideal S1x2560 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (F11 (par x2 x3 x4 x5 x6 x7 x8 x9 x10) x0 x1) ∗ owns (c : Thread nD τ) arg13 fullShare (F12 (par x2 x3 x4 x5 x6 x7 x8 x9 x10) x0 x1) ∗ owns (c : Thread nD τ) arg14 fullShare (F13 (par x2 x3 x4 x5 x6 x7 x8 x9 x10) x0 x1) ∗ owns (c : Thread nD τ) arg15 fullShare (F14 (par x2 x3 x4 x5 x6 x7 x8 x9 x10) x0 x1) ∗ owns (c : Thread nD τ) arg16 fullShare (F15 (par x2 x3 x4 x5 x6 x7 x8 x9 x10) x0 x1) ∗ owns (c : Thread nD τ) arg17 fullShare (F16 (par x2 x3 x4 x5 x6 x7 x8 x9 x10) x0 x1) ∗ owns (c : Thread nD τ) arg18 fullShare (F17 (par x2 x3 x4 x5 x6 x7 x8 x9 x10) x0 x1) ∗ owns (c : Thread nD τ) arg19 fullShare (F18 (par x2 x3 x4 x5 x6 x7 x8 x9 x10) x0 x1) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := Ideal)) Variants.none c none) E (cc0_mlp_vid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  iintro ⟨H0, H1, H2, H3, H4, H5, H6, H7, H8, H9, H10, H11, H12, H13, H14, H15, H16, H17, H18, HS0, HS1, HS2, HK⟩
  iapply ((namedRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  iintro ⟨H0, H1, H2, H3, H4, H5, H6, H7, H8, H9, H10, H11, H12, H13, H14, H15, H16, H17, H18, HS0, HS1, HS2⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_of_pieces arg12 _ _ (cover11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) (canon11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10)); iexact H11
  isplitl [H12]; · iapply (owns_of_pieces arg13 _ _ (cover12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) (canon12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10)); iexact H12
  isplitl [H13]; · iapply (owns_of_pieces arg14 _ _ (cover13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) (canon13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10)); iexact H13
  isplitl [H14]; · iapply (owns_of_pieces arg15 _ _ (cover14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) (canon14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10)); iexact H14
  isplitl [H15]; · iapply (owns_of_pieces arg16 _ _ (cover15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) (canon15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10)); iexact H15
  isplitl [H16]; · iapply (owns_of_pieces arg17 _ _ (cover16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) (canon16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10)); iexact H16
  isplitl [H17]; · iapply (owns_of_pieces arg18 _ _ (cover17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) (canon17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10)); iexact H17
  isplitl [H18]; · iapply (owns_of_pieces arg19 _ _ (cover18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) (canon18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10)); iexact H18
  isplitl [HS0]; · iapply (owns_of_written arg20 _); iexact HS0
  isplitl [HS1]; · iapply (owns_of_written arg21 _); iexact HS1
  iapply (owns_of_written arg22 _); iexact HS2

end Cert.KernelIdeal.Tail

end
-- ==== Proof.IdealFrame.lean ====
/- The frame of the idealized kernel with its outputs named: every run ends with each output array holding, on the part each
   block reaches, the row functions of what the block read. -/
module

public import proofs.«01_k».proof.Proof.ValueRun
public import Idealize.ShloMosaic.Lib.Claim

@[expose] public section

set_option maxRecDepth 16384

noncomputable section

namespace Cert.KernelIdeal.Tail

open Cert.KernelIdeal.Gen Cert.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

abbrev ms0_0 (t : Fin cfg0.N) : Memref sig .tc .vmem S2x5x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x256x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x2x2560 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x2560 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1728x2560 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1728 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1728x2560 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1728 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1728x2560 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2560 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x256x2560 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x256x640 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x256x2560 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x1728x256 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S2x256x640 .bf16 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S256x2560 .f32 := Memref.whole cc0_scratch0
abbrev scM0_1 : Memref sig .tc .vmem S256x1728 .f32 := Memref.whole cc0_scratch1
abbrev scM0_2 : Memref sig .tc .vmem S256x1728 .fp8e4m3 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The rows of the residual block that lie inside the array -/

/-- The rows a block reaches are the same for the residual and for every output. -/
theorem xs : ∀ t : Fin cfg0.N, win0_1.xsize (grid0.coords t) 0 = 2 ∧ win0_1.xsize (grid0.coords t) 2 = 2560
    ∧ win0_11.xsize (grid0.coords t) 1 = win0_1.xsize (grid0.coords t) 1
    ∧ win0_12.xsize (grid0.coords t) 1 = win0_1.xsize (grid0.coords t) 1
    ∧ win0_13.xsize (grid0.coords t) 1 = win0_1.xsize (grid0.coords t) 1
    ∧ win0_14.xsize (grid0.coords t) 1 = win0_1.xsize (grid0.coords t) 1
    ∧ win0_15.xsize (grid0.coords t) 1 = win0_1.xsize (grid0.coords t) 1
    ∧ win0_16.xsize (grid0.coords t) 2 = win0_1.xsize (grid0.coords t) 1
    ∧ win0_17.xsize (grid0.coords t) 1 = win0_1.xsize (grid0.coords t) 1
    ∧ win0_18.xsize (grid0.coords t) 1 = win0_1.xsize (grid0.coords t) 1
    := by decide +kernel

/-- A row inside the array does not depend on what the buffer held before the fetch. -/
theorem xrow_fill (t : Fin cfg0.N) (d d' : win0_1.block.Idx → EReal) (g : (win0_1.xblock (grid0.coords t)).Idx → EReal) (b r : ℕ)
    (hr : r < win0_1.xsize (grid0.coords t) 1) :
    xrow (win0_1.fill (grid0.coords t) d g) b r = xrow (win0_1.fill (grid0.coords t) d' g) b r := by
  funext k
  unfold xrow
  split
  · rename_i h
    have hm : win0_1.moved (grid0.coords t) (ix3 ⟨b, h.1⟩ ⟨r, h.2⟩ k) = true := by
      refine (win0_1.moved_iff _ _).mpr fun a => ?_
      have h0 := (xs t).1
      have h2 := (xs t).2.1
      match a with
      | ⟨0, _⟩ => exact h0.symm ▸ h.1
      | ⟨1, _⟩ => exact hr
      | ⟨2, _⟩ => exact h2.symm ▸ k.isLt
      | ⟨a + 3, ha⟩ => exact absurd ha (Nat.not_lt.2 (Nat.le_add_left _ _))
    unfold Window.fill
    rw [dif_pos hm, dif_pos hm]
  · rfl

theorem cut11 (t : Fin cfg0.N) (P : ℕ → Par) (x0 : Vec Ideal S2x5x256x128 .f32) (d d' : win0_1.block.Idx → EReal)
    (g : (win0_1.xblock (grid0.coords t)).Idx → EReal) :
    win0_11.cut (grid0.coords t) (F11 P x0 (win0_1.fill (grid0.coords t) d g)) = win0_11.cut (grid0.coords t) (F11 P x0 (win0_1.fill (grid0.coords t) d' g)) := by
  funext j
  have hr : (j 1).val < win0_1.xsize (grid0.coords t) 1 := (xs t).2.2.1 ▸ (j 1).isLt
  show F11 P x0 _ (win0_11.xinj (grid0.coords t) j) = F11 P x0 _ (win0_11.xinj (grid0.coords t) j)
  unfold F11
  rw [xrow_fill t d d' g _ _ hr]

theorem cut12 (t : Fin cfg0.N) (P : ℕ → Par) (x0 : Vec Ideal S2x5x256x128 .f32) (d d' : win0_1.block.Idx → EReal)
    (g : (win0_1.xblock (grid0.coords t)).Idx → EReal) :
    win0_12.cut (grid0.coords t) (F12 P x0 (win0_1.fill (grid0.coords t) d g)) = win0_12.cut (grid0.coords t) (F12 P x0 (win0_1.fill (grid0.coords t) d' g)) := by
  rfl

theorem cut13 (t : Fin cfg0.N) (P : ℕ → Par) (x0 : Vec Ideal S2x5x256x128 .f32) (d d' : win0_1.block.Idx → EReal)
    (g : (win0_1.xblock (grid0.coords t)).Idx → EReal) :
    win0_13.cut (grid0.coords t) (F13 P x0 (win0_1.fill (grid0.coords t) d g)) = win0_13.cut (grid0.coords t) (F13 P x0 (win0_1.fill (grid0.coords t) d' g)) := by
  rfl

theorem cut14 (t : Fin cfg0.N) (P : ℕ → Par) (x0 : Vec Ideal S2x5x256x128 .f32) (d d' : win0_1.block.Idx → EReal)
    (g : (win0_1.xblock (grid0.coords t)).Idx → EReal) :
    win0_14.cut (grid0.coords t) (F14 P x0 (win0_1.fill (grid0.coords t) d g)) = win0_14.cut (grid0.coords t) (F14 P x0 (win0_1.fill (grid0.coords t) d' g)) := by
  funext j
  have hr : (j 1).val < win0_1.xsize (grid0.coords t) 1 := (xs t).2.2.2.2.2.1 ▸ (j 1).isLt
  show F14 P x0 _ (win0_14.xinj (grid0.coords t) j) = F14 P x0 _ (win0_14.xinj (grid0.coords t) j)
  unfold F14
  rw [xrow_fill t d d' g _ _ hr]

theorem cut15 (t : Fin cfg0.N) (P : ℕ → Par) (x0 : Vec Ideal S2x5x256x128 .f32) (d d' : win0_1.block.Idx → EReal)
    (g : (win0_1.xblock (grid0.coords t)).Idx → EReal) :
    win0_15.cut (grid0.coords t) (F15 P x0 (win0_1.fill (grid0.coords t) d g)) = win0_15.cut (grid0.coords t) (F15 P x0 (win0_1.fill (grid0.coords t) d' g)) := by
  funext j
  have hr : (j 1).val < win0_1.xsize (grid0.coords t) 1 := (xs t).2.2.2.2.2.2.1 ▸ (j 1).isLt
  show F15 P x0 _ (win0_15.xinj (grid0.coords t) j) = F15 P x0 _ (win0_15.xinj (grid0.coords t) j)
  unfold F15
  rw [xrow_fill t d d' g _ _ hr]

theorem cut16 (t : Fin cfg0.N) (P : ℕ → Par) (x0 : Vec Ideal S2x5x256x128 .f32) (d d' : win0_1.block.Idx → EReal)
    (g : (win0_1.xblock (grid0.coords t)).Idx → EReal) :
    win0_16.cut (grid0.coords t) (F16 P x0 (win0_1.fill (grid0.coords t) d g)) = win0_16.cut (grid0.coords t) (F16 P x0 (win0_1.fill (grid0.coords t) d' g)) := by
  funext j
  have hr : (j 2).val < win0_1.xsize (grid0.coords t) 1 := (xs t).2.2.2.2.2.2.2.1 ▸ (j 2).isLt
  show F16 P x0 _ (win0_16.xinj (grid0.coords t) j) = F16 P x0 _ (win0_16.xinj (grid0.coords t) j)
  unfold F16
  rw [xrow_fill t d d' g _ _ hr]

theorem cut17 (t : Fin cfg0.N) (P : ℕ → Par) (x0 : Vec Ideal S2x5x256x128 .f32) (d d' : win0_1.block.Idx → EReal)
    (g : (win0_1.xblock (grid0.coords t)).Idx → EReal) :
    win0_17.cut (grid0.coords t) (F17 P x0 (win0_1.fill (grid0.coords t) d g)) = win0_17.cut (grid0.coords t) (F17 P x0 (win0_1.fill (grid0.coords t) d' g)) := by
  funext j
  have hr : (j 1).val < win0_1.xsize (grid0.coords t) 1 := (xs t).2.2.2.2.2.2.2.2.1 ▸ (j 1).isLt
  show F17 P x0 _ (win0_17.xinj (grid0.coords t) j) = F17 P x0 _ (win0_17.xinj (grid0.coords t) j)
  unfold F17
  rw [xrow_fill t d d' g _ _ hr]

theorem cut18 (t : Fin cfg0.N) (P : ℕ → Par) (x0 : Vec Ideal S2x5x256x128 .f32) (d d' : win0_1.block.Idx → EReal)
    (g : (win0_1.xblock (grid0.coords t)).Idx → EReal) :
    win0_18.cut (grid0.coords t) (F18 P x0 (win0_1.fill (grid0.coords t) d g)) = win0_18.cut (grid0.coords t) (F18 P x0 (win0_1.fill (grid0.coords t) d' g)) := by
  rfl

/-! ## The pipeline's proof data -/

/-- The parameters a block's rows meet. -/
def parAt (c : Dev nD) (t : Fin cfg0.N) : ℕ → Par :=
  par (iblk m c 2 t) (iblk m c 3 t) (iblk m c 4 t) (iblk m c 5 t) (iblk m c 6 t) (iblk m c 7 t) (iblk m c 8 t) (iblk m c 9 t) (iblk m c 10 t)

/-- The residual block, zero past the array's end. -/
def xAt (c : Dev nD) (t : Fin cfg0.N) : Vec Ideal S2x256x2560 .bf16 :=
  win0_1.fill (grid0.coords t) (fun _ => (0 : EReal)) (iblk m c 1 t)

/-- The proof data of the one pipeline on core `c`: the arrays as the region finds them; after the body at point `t` each
    input's buffer at its block and each output's at its row function of the blocks; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => xAt m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => F11 (parAt m c t) (iblk m c 0 t) (xAt m c t)
    | ⟨12, _⟩ => F12 (parAt m c t) (iblk m c 0 t) (xAt m c t)
    | ⟨13, _⟩ => F13 (parAt m c t) (iblk m c 0 t) (xAt m c t)
    | ⟨14, _⟩ => F14 (parAt m c t) (iblk m c 0 t) (xAt m c t)
    | ⟨15, _⟩ => F15 (parAt m c t) (iblk m c 0 t) (xAt m c t)
    | ⟨16, _⟩ => F16 (parAt m c t) (iblk m c 0 t) (xAt m c t)
    | ⟨17, _⟩ => F17 (parAt m c t) (iblk m c 0 t) (xAt m c t)
    | ⟨18, _⟩ => F18 (parAt m c t) (iblk m c 0 t) (xAt m c t)
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = xAt m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = F11 (parAt m c t) (iblk m c 0 t) (xAt m c t) := by dsimp only [dats]
theorem after0_12 (c : Dev nD) (t : Fin cfg0.N) : (dats m 0 c).after 12 t = F12 (parAt m c t) (iblk m c 0 t) (xAt m c t) := by dsimp only [dats]
theorem after0_13 (c : Dev nD) (t : Fin cfg0.N) : (dats m 0 c).after 13 t = F13 (parAt m c t) (iblk m c 0 t) (xAt m c t) := by dsimp only [dats]
theorem after0_14 (c : Dev nD) (t : Fin cfg0.N) : (dats m 0 c).after 14 t = F14 (parAt m c t) (iblk m c 0 t) (xAt m c t) := by dsimp only [dats]
theorem after0_15 (c : Dev nD) (t : Fin cfg0.N) : (dats m 0 c).after 15 t = F15 (parAt m c t) (iblk m c 0 t) (xAt m c t) := by dsimp only [dats]
theorem after0_16 (c : Dev nD) (t : Fin cfg0.N) : (dats m 0 c).after 16 t = F16 (parAt m c t) (iblk m c 0 t) (xAt m c t) := by dsimp only [dats]
theorem after0_17 (c : Dev nD) (t : Fin cfg0.N) : (dats m 0 c).after 17 t = F17 (parAt m c t) (iblk m c 0 t) (xAt m c t) := by dsimp only [dats]
theorem after0_18 (c : Dev nD) (t : Fin cfg0.N) : (dats m 0 c).after 18 t = F18 (parAt m c t) (iblk m c 0 t) (xAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) :
    (dats m 0 c).before 1 t d = win0_1.fill (grid0.coords t) d (iblk m c 1 t) := by
  unfold Dat.before; rw [if_pos (fetch0_1 t)]; rfl
theorem cut0_1 (c : Dev nD) (t : Fin cfg0.N) :
    win0_1.cut (grid0.coords t) ((dats m 0 c).after 1 t) = iblk m c 1 t := by
  rw [after0_1]; exact win0_1.cut_fill _ _ _
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem cut0_11 (c : Dev nD) (t : Fin cfg0.N) (d : win0_1.block.Idx → EReal) :
    win0_11.fill (grid0.coords t) (F11 (parAt m c t) (iblk m c 0 t) (win0_1.fill (grid0.coords t) d (iblk m c 1 t)))
        (win0_11.cut (grid0.coords t) ((dats m 0 c).after 11 t))
      = F11 (parAt m c t) (iblk m c 0 t) (win0_1.fill (grid0.coords t) d (iblk m c 1 t)) := by
  rw [after0_11]; exact win0_11.fill_congr_cut _ (cut11 t _ _ _ _ _)
theorem cut0_12 (c : Dev nD) (t : Fin cfg0.N) (d : win0_1.block.Idx → EReal) :
    win0_12.fill (grid0.coords t) (F12 (parAt m c t) (iblk m c 0 t) (win0_1.fill (grid0.coords t) d (iblk m c 1 t)))
        (win0_12.cut (grid0.coords t) ((dats m 0 c).after 12 t))
      = F12 (parAt m c t) (iblk m c 0 t) (win0_1.fill (grid0.coords t) d (iblk m c 1 t)) := by
  rw [after0_12]; exact win0_12.fill_congr_cut _ (cut12 t _ _ _ _ _)
theorem cut0_13 (c : Dev nD) (t : Fin cfg0.N) (d : win0_1.block.Idx → EReal) :
    win0_13.fill (grid0.coords t) (F13 (parAt m c t) (iblk m c 0 t) (win0_1.fill (grid0.coords t) d (iblk m c 1 t)))
        (win0_13.cut (grid0.coords t) ((dats m 0 c).after 13 t))
      = F13 (parAt m c t) (iblk m c 0 t) (win0_1.fill (grid0.coords t) d (iblk m c 1 t)) := by
  rw [after0_13]; exact win0_13.fill_congr_cut _ (cut13 t _ _ _ _ _)
theorem cut0_14 (c : Dev nD) (t : Fin cfg0.N) (d : win0_1.block.Idx → EReal) :
    win0_14.fill (grid0.coords t) (F14 (parAt m c t) (iblk m c 0 t) (win0_1.fill (grid0.coords t) d (iblk m c 1 t)))
        (win0_14.cut (grid0.coords t) ((dats m 0 c).after 14 t))
      = F14 (parAt m c t) (iblk m c 0 t) (win0_1.fill (grid0.coords t) d (iblk m c 1 t)) := by
  rw [after0_14]; exact win0_14.fill_congr_cut _ (cut14 t _ _ _ _ _)
theorem cut0_15 (c : Dev nD) (t : Fin cfg0.N) (d : win0_1.block.Idx → EReal) :
    win0_15.fill (grid0.coords t) (F15 (parAt m c t) (iblk m c 0 t) (win0_1.fill (grid0.coords t) d (iblk m c 1 t)))
        (win0_15.cut (grid0.coords t) ((dats m 0 c).after 15 t))
      = F15 (parAt m c t) (iblk m c 0 t) (win0_1.fill (grid0.coords t) d (iblk m c 1 t)) := by
  rw [after0_15]; exact win0_15.fill_congr_cut _ (cut15 t _ _ _ _ _)
theorem cut0_16 (c : Dev nD) (t : Fin cfg0.N) (d : win0_1.block.Idx → EReal) :
    win0_16.fill (grid0.coords t) (F16 (parAt m c t) (iblk m c 0 t) (win0_1.fill (grid0.coords t) d (iblk m c 1 t)))
        (win0_16.cut (grid0.coords t) ((dats m 0 c).after 16 t))
      = F16 (parAt m c t) (iblk m c 0 t) (win0_1.fill (grid0.coords t) d (iblk m c 1 t)) := by
  rw [after0_16]; exact win0_16.fill_congr_cut _ (cut16 t _ _ _ _ _)
theorem cut0_17 (c : Dev nD) (t : Fin cfg0.N) (d : win0_1.block.Idx → EReal) :
    win0_17.fill (grid0.coords t) (F17 (parAt m c t) (iblk m c 0 t) (win0_1.fill (grid0.coords t) d (iblk m c 1 t)))
        (win0_17.cut (grid0.coords t) ((dats m 0 c).after 17 t))
      = F17 (parAt m c t) (iblk m c 0 t) (win0_1.fill (grid0.coords t) d (iblk m c 1 t)) := by
  rw [after0_17]; exact win0_17.fill_congr_cut _ (cut17 t _ _ _ _ _)
theorem cut0_18 (c : Dev nD) (t : Fin cfg0.N) (d : win0_1.block.Idx → EReal) :
    win0_18.fill (grid0.coords t) (F18 (parAt m c t) (iblk m c 0 t) (win0_1.fill (grid0.coords t) d (iblk m c 1 t)))
        (win0_18.cut (grid0.coords t) ((dats m 0 c).after 18 t))
      = F18 (parAt m c t) (iblk m c 0 t) (win0_1.fill (grid0.coords t) d (iblk m c 1 t)) := by
  rw [after0_18]; exact win0_18.fill_congr_cut _ (cut18 t _ _ _ _ _)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare (win0_1.fill (grid0.coords t) d (win0_1.cut (grid0.coords t) ((dats m 0 c).after 1 t))))
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare (win0_11.fill (grid0.coords t) d (win0_11.cut (grid0.coords t) ((dats m 0 c).after 11 t))))
    ∗ (∃ d, owns (c : Thread nD τ) (ms0_12 t) fullShare (win0_12.fill (grid0.coords t) d (win0_12.cut (grid0.coords t) ((dats m 0 c).after 12 t))))
    ∗ (∃ d, owns (c : Thread nD τ) (ms0_13 t) fullShare (win0_13.fill (grid0.coords t) d (win0_13.cut (grid0.coords t) ((dats m 0 c).after 13 t))))
    ∗ (∃ d, owns (c : Thread nD τ) (ms0_14 t) fullShare (win0_14.fill (grid0.coords t) d (win0_14.cut (grid0.coords t) ((dats m 0 c).after 14 t))))
    ∗ (∃ d, owns (c : Thread nD τ) (ms0_15 t) fullShare (win0_15.fill (grid0.coords t) d (win0_15.cut (grid0.coords t) ((dats m 0 c).after 15 t))))
    ∗ (∃ d, owns (c : Thread nD τ) (ms0_16 t) fullShare (win0_16.fill (grid0.coords t) d (win0_16.cut (grid0.coords t) ((dats m 0 c).after 16 t))))
    ∗ (∃ d, owns (c : Thread nD τ) (ms0_17 t) fullShare (win0_17.fill (grid0.coords t) d (win0_17.cut (grid0.coords t) ((dats m 0 c).after 17 t))))
    ∗ (∃ d, owns (c : Thread nD τ) (ms0_18 t) fullShare (win0_18.fill (grid0.coords t) d (win0_18.cut (grid0.coords t) ((dats m 0 c).after 18 t)))))

set_option maxHeartbeats 4000000 in
/-- The body at any point: the inputs' buffers hold their blocks, so the run applies; on the rows inside the array its
    outputs are the proof data's. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, cut0_1, after0_2, after0_3, after0_4, after0_5, after0_6, after0_7, after0_8, after0_9, after0_10]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (valueRun c (grid0.coords t) _ _ _ _ _ _ _ _ _ _ _ _ _ _ _ _ _ _ _ _ _ _ _ _ _ _ _ _ _ _ _ _ _ _ _ _ _ _ _ _ _ _ _ _ (iblk m c 0 t) (win0_1.fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  iintro ⟨H0, H1, H2, H3, H4, H5, H6, H7, H8, H9, H10, H11, H12, H13, H14, H15, H16, H17, H18, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists (F11 (parAt m c t) (iblk m c 0 t) (win0_1.fill (grid0.coords t) d1 (iblk m c 1 t))); rw [cut0_11]; iexact H11
  isplitl [H12]; · iexists (F12 (parAt m c t) (iblk m c 0 t) (win0_1.fill (grid0.coords t) d1 (iblk m c 1 t))); rw [cut0_12]; iexact H12
  isplitl [H13]; · iexists (F13 (parAt m c t) (iblk m c 0 t) (win0_1.fill (grid0.coords t) d1 (iblk m c 1 t))); rw [cut0_13]; iexact H13
  isplitl [H14]; · iexists (F14 (parAt m c t) (iblk m c 0 t) (win0_1.fill (grid0.coords t) d1 (iblk m c 1 t))); rw [cut0_14]; iexact H14
  isplitl [H15]; · iexists (F15 (parAt m c t) (iblk m c 0 t) (win0_1.fill (grid0.coords t) d1 (iblk m c 1 t))); rw [cut0_15]; iexact H15
  isplitl [H16]; · iexists (F16 (parAt m c t) (iblk m c 0 t) (win0_1.fill (grid0.coords t) d1 (iblk m c 1 t))); rw [cut0_16]; iexact H16
  isplitl [H17]; · iexists (F17 (parAt m c t) (iblk m c 0 t) (win0_1.fill (grid0.coords t) d1 (iblk m c 1 t))); rw [cut0_17]; iexact H17
  iexists (F18 (parAt m c t) (iblk m c 0 t) (win0_1.fill (grid0.coords t) d1 (iblk m c 1 t))); rw [cut0_18]; iexact H18

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- Every run ends with the output arrays at what the proof data's blocks leave and every semaphore counter at zero. -/
theorem run_main_quiescent : θ_run defs (onTc (τ := τ) (main (F := Ideal))) (s₀ m ρ)
    (fun r => (Pipeline.FramePost cfgs (dats m) (0 : Fin 1) (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Tail

end
-- ==== Proof.Arrays.lean ====
/- The layer's tail on whole arrays: what every result holds at an index, as the row functions of `Rows` of the arguments. -/
module

public import proofs.«01_k».proof.Proof.Rows
public import Idealize.ShloMosaic.Lib.Pointwise

@[expose] public section

set_option maxRecDepth 16384

noncomputable section

namespace Cert.Tail

open Idealize.ShloMosaic Idealize.ShloMosaic.TcCoe Idealize.ShloMosaic.Tactic

/-- An array of extended reals of a shape. -/
abbrev Arr (n : ℕ) (s : Fin n → ℕ) : Type := (⟨n, s⟩ : Shape).Idx → EReal

/-- The attention row of token `r` of video `b`: its five heads side by side. -/
def arowA (att : Arr 4 ![2, 5, 12288, 128]) (b : Fin 2) (r : Fin 12240) (k : Fin 640) : EReal :=
  att (ix4 b ⟨k.val / 128, by omega⟩ ⟨r.val, by omega⟩ ⟨k.val % 128, by omega⟩)

/-- The residual row of that token. -/
def xrowA (x : Arr 3 ![2, 12240, 2560]) (b : Fin 2) (r : Fin 12240) (k : Fin 2560) : EReal := x (ix3 b r k)

/-- The parameters the rows of video `b` meet. -/
def parA (mod : Arr 3 ![2, 6, 2560]) (wo : Arr 2 ![640, 2560]) (so : Arr 1 ![2560]) (w1 : Arr 2 ![2560, 1728])
    (s1 : Arr 1 ![1728]) (w3 : Arr 2 ![2560, 1728]) (s3 : Arr 1 ![1728]) (w2 : Arr 2 ![1728, 2560]) (s2 : Arr 1 ![2560])
    (b : Fin 2) : Par where
  gate1 k := mod (ix3 b 2 k)
  shift k := mod (ix3 b 3 k)
  scale k := mod (ix3 b 4 k)
  gate2 k := mod (ix3 b 5 k)
  wo k c := wo (ix2 k c)
  so c := so (ix1 c)
  w1 j k := w1 (ix2 k j)
  s1 j := s1 (ix1 j)
  w3 j k := w3 (ix2 k j)
  s3 j := s3 (ix1 j)
  w2 j c := w2 (ix2 j c)
  s2 c := s2 (ix1 c)

end Cert.Tail

end
-- ==== Proof.IdealBlocks.lean ====
/- The idealized kernel's result arrays after a run, at an index: the row functions of the argument arrays. -/
module

public import proofs.«01_k».proof.Proof.IdealFrame
public import proofs.«01_k».proof.Proof.Arrays
public import Idealize.ShloMosaic.Lib.Pipeline.ValueKit

@[expose] public section

set_option maxRecDepth 16384

noncomputable section

namespace Cert.KernelIdeal.Tail

open Cert.KernelIdeal.Gen Cert.Tail

open Idealize.ShloMosaic Idealize.ShloMosaic.TcCoe Idealize.ShloMosaic.Tactic
open Idealize.ShloMosaic.Pipeline (Dat Cfg Window)

variable (m : (ℓ : Loc nD τ sig) → Buf (Elt Ideal) ℓ)

/-- The blocks' places. -/
theorem idx (t : Fin cfg0.N) : win0_0.index t = ![0, 0, t.val, 0] ∧ win0_1.index t = ![0, t.val, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, t.val, 0] ∧ win0_12.index t = ![0, t.val, 0] ∧ win0_13.index t = ![0, t.val]
    ∧ win0_14.index t = ![0, t.val, 0] ∧ win0_15.index t = ![0, t.val] ∧ win0_16.index t = ![0, 0, t.val]
    ∧ win0_17.index t = ![0, t.val] ∧ win0_18.index t = ![0, t.val, 0]
    ∧ win0_1.xsize (grid0.coords t) 1 = min 256 (12240 - t.val * 256) := by
  revert t; decide +kernel

/-- A block's attention row is the array's. -/
theorem arow_blk (c : Dev nD) (t : Fin cfg0.N) (b r : ℕ) (hb : b < 2) (hr : r < 256) (hR : t.val * 256 + r < 12240) :
    arow (iblk m c 0 t) b r = arowA (m ((c.tc : Thread nD τ).loc main_arg0)) ⟨b, hb⟩ ⟨t.val * 256 + r, hR⟩ := by
  funext k
  unfold arow arowA
  rw [dif_pos ⟨hb, hr⟩]
  have h := (idx t).1
  blk_ext [iblk, V, h]

/-- So is its residual row. -/
theorem xrow_blk (c : Dev nD) (t : Fin cfg0.N) (b r : ℕ) (hb : b < 2) (hr : r < 256) (hR : t.val * 256 + r < 12240) :
    xrow (xAt m c t) b r = xrowA (m ((c.tc : Thread nD τ).loc main_arg1)) ⟨b, hb⟩ ⟨t.val * 256 + r, hR⟩ := by
  funext k
  unfold xrow xrowA
  rw [dif_pos ⟨hb, hr⟩]
  have h := (idx t).2.1
  have hx : win0_1.xsize (grid0.coords t) 1 = min 256 (12240 - t.val * 256) := (idx t).2.2.2.2.2.2.2.2.2.2.2.2.2.2.2.2.2.2.2
  have hm : win0_1.moved (grid0.coords t) (ix3 ⟨b, hb⟩ ⟨r, hr⟩ k) = true := by
    refine (win0_1.moved_iff _ _).mpr fun a => ?_
    have h0 := (xs t).1
    have h2 := (xs t).2.1
    match a with
    | ⟨0, _⟩ => exact h0.symm ▸ hb
    | ⟨1, _⟩ => exact hx.symm ▸ (show r < min 256 (12240 - t.val * 256) by omega)
    | ⟨2, _⟩ => exact h2.symm ▸ k.isLt
    | ⟨a + 3, ha⟩ => exact absurd ha (Nat.not_lt.2 (Nat.le_add_left _ _))
  unfold xAt Window.fill
  rw [dif_pos hm]
  blk_ext [iblk, V, h]

/-- The parameters of the argument arrays. -/
def parM (c : Dev nD) : Fin 2 → Par :=
  parA (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))

/-- A block's rows meet those. -/
theorem par_blk (c : Dev nD) (t : Fin cfg0.N) (b : ℕ) (hb : b < 2) : parAt m c t b = parM m c ⟨b, hb⟩ := by
  have h := idx t
  unfold parAt par parM parA
  congr 1
  · funext k
    have h := (idx t).2.2.1
    unfold mrow
    rw [dif_pos hb]
    blk_point [iblk, V, h]
  · funext k
    have h := (idx t).2.2.1
    unfold mrow
    rw [dif_pos hb]
    blk_point [iblk, V, h]
  · funext k
    have h := (idx t).2.2.1
    unfold mrow
    rw [dif_pos hb]
    blk_point [iblk, V, h]
  · funext k
    have h := (idx t).2.2.1
    unfold mrow
    rw [dif_pos hb]
    blk_point [iblk, V, h]
  · funext k l
    have h := (idx t).2.2.2.1
    blk_point [iblk, V, h]
  · funext k
    have h := (idx t).2.2.2.2.1
    blk_point [iblk, V, h]
  · funext k l
    have h := (idx t).2.2.2.2.2.1
    blk_point [iblk, V, h]
  · funext k
    have h := (idx t).2.2.2.2.2.2.1
    blk_point [iblk, V, h]
  · funext k l
    have h := (idx t).2.2.2.2.2.2.2.1
    blk_point [iblk, V, h]
  · funext k
    have h := (idx t).2.2.2.2.2.2.2.2.1
    blk_point [iblk, V, h]
  · funext k l
    have h := (idx t).2.2.2.2.2.2.2.2.2.1
    blk_point [iblk, V, h]
  · funext k
    have h := (idx t).2.2.2.2.2.2.2.2.2.2.1
    blk_point [iblk, V, h]

end Cert.KernelIdeal.Tail

end
-- ==== Proof.IdealValue.lean ====
/- The idealized kernel's result arrays after a run, at an index: the row functions of the argument arrays. -/
module

public import proofs.«01_k».proof.Proof.IdealBlocks
public import proofs.«01_k».proof.Proof.Arrays
public import Idealize.ShloMosaic.Lib.Pipeline.ValueKit

@[expose] public section

set_option maxRecDepth 16384
set_option maxHeartbeats 4000000

noncomputable section

namespace Cert.KernelIdeal.Tail

open Cert.KernelIdeal.Gen Cert.Tail

open Idealize.ShloMosaic Idealize.ShloMosaic.TcCoe Idealize.ShloMosaic.Tactic
open Idealize.ShloMosaic.Pipeline (Dat Cfg Window)

variable (m : (ℓ : Loc nD τ sig) → Buf (Elt Ideal) ℓ)

/-- Result 1 at an index. -/
def G11 (c : Dev nD) : Arr 3 ![2, 12240, 2560] := fun j => rowO (parM m c (j 0)) (arowA (m ((c.tc : Thread nD τ).loc main_arg0)) (j 0) (j 1)) (xrowA (m ((c.tc : Thread nD τ).loc main_arg1)) (j 0) (j 1)) (j 2)

theorem arr11 (c : Dev nD) : (dats m 0 c).arrAt 11 (cfgs 0).N = G11 m c := by
  refine (dats m 0 c).arrAt_eq_of_covers 11 _ (by decide +kernel) fun t hf y => ?_
  blk_simp
  rw [after0_11]
  have h := (idx t).2.2.2.2.2.2.2.2.2.2.2.1
  have hx : win0_11.xsize (grid0.coords t) 1 = min 256 (12240 - t.val * 256) :=
    ((xs t).2.2.1).trans (idx t).2.2.2.2.2.2.2.2.2.2.2.2.2.2.2.2.2.2.2
  have hb : (y 0).val < 2 := lt_of_lt_of_le (y 0).isLt (win0_11.xsize_le (grid0.coords t) 0)
  have hr' : (y 1).val < min 256 (12240 - t.val * 256) := hx ▸ (y 1).isLt
  have hr : (y 1).val < 256 := by omega
  have hR : t.val * 256 + (y 1).val < 12240 := by omega
  have E0 : ((win0_11.blk t).view.emb y 0 : Fin 2) = ⟨(y 0).val, hb⟩ := Fin.ext (by blk_simp [h])
  have E1 : ((win0_11.blk t).view.emb y 1 : Fin 12240) = ⟨t.val * 256 + (y 1).val, hR⟩ := Fin.ext ((win0_11.rect_emb_val t y 1).trans (by rw [h]; rfl))
  have hk : (y 2).val < 2560 := by
    have h1 := (y 2).isLt
    have h2 := win0_11.xsize_le (grid0.coords t) 2
    have e : win0_11.size 2 = 2560 := rfl
    rw [e] at h2
    exact lt_of_lt_of_le h1 h2
  have E2 : ((win0_11.blk t).view.emb y 2 : Fin 2560) = ⟨(y 2).val, hk⟩ := Fin.ext (win0_11.rect_emb_val_of_index_zero t 2 (by rw [h]; rfl) y)
  show rowO (parAt m c t (y 0).val) (arow (iblk m c 0 t) (y 0).val (y 1).val) (xrow (xAt m c t) (y 0).val (y 1).val) ⟨(y 2).val, hk⟩
    = rowO (parM m c ((win0_11.blk t).view.emb y 0)) (arowA (m ((c.tc : Thread nD τ).loc main_arg0)) ((win0_11.blk t).view.emb y 0) ((win0_11.blk t).view.emb y 1)) (xrowA (m ((c.tc : Thread nD τ).loc main_arg1)) ((win0_11.blk t).view.emb y 0) ((win0_11.blk t).view.emb y 1)) ((win0_11.blk t).view.emb y 2)
  rw [E0, E1, E2, arow_blk m c t _ _ hb hr hR, xrow_blk m c t _ _ hb hr hR, par_blk m c t _ hb]
  try rfl

/-- Result 2 at an index. -/
def G12 (c : Dev nD) : Arr 3 ![2, 12240, 640] := fun j => rowCodes (arowA (m ((c.tc : Thread nD τ).loc main_arg0)) (j 0) (j 1)) (j 2)

theorem arr12 (c : Dev nD) : (dats m 0 c).arrAt 12 (cfgs 0).N = G12 m c := by
  refine (dats m 0 c).arrAt_eq_of_covers 12 _ (by decide +kernel) fun t hf y => ?_
  blk_simp
  rw [after0_12]
  have h := (idx t).2.2.2.2.2.2.2.2.2.2.2.2.1
  have hx : win0_12.xsize (grid0.coords t) 1 = min 256 (12240 - t.val * 256) :=
    ((xs t).2.2.2.1).trans (idx t).2.2.2.2.2.2.2.2.2.2.2.2.2.2.2.2.2.2.2
  have hb : (y 0).val < 2 := lt_of_lt_of_le (y 0).isLt (win0_12.xsize_le (grid0.coords t) 0)
  have hr' : (y 1).val < min 256 (12240 - t.val * 256) := hx ▸ (y 1).isLt
  have hr : (y 1).val < 256 := by omega
  have hR : t.val * 256 + (y 1).val < 12240 := by omega
  have E0 : ((win0_12.blk t).view.emb y 0 : Fin 2) = ⟨(y 0).val, hb⟩ := Fin.ext (by blk_simp [h])
  have E1 : ((win0_12.blk t).view.emb y 1 : Fin 12240) = ⟨t.val * 256 + (y 1).val, hR⟩ := Fin.ext ((win0_12.rect_emb_val t y 1).trans (by rw [h]; rfl))
  have hk : (y 2).val < 640 := by
    have h1 := (y 2).isLt
    have h2 := win0_12.xsize_le (grid0.coords t) 2
    have e : win0_12.size 2 = 640 := rfl
    rw [e] at h2
    exact lt_of_lt_of_le h1 h2
  have E2 : ((win0_12.blk t).view.emb y 2 : Fin 640) = ⟨(y 2).val, hk⟩ := Fin.ext (win0_12.rect_emb_val_of_index_zero t 2 (by rw [h]; rfl) y)
  show rowCodes (arow (iblk m c 0 t) (y 0).val (y 1).val) ⟨(y 2).val, hk⟩
    = rowCodes (arowA (m ((c.tc : Thread nD τ).loc main_arg0)) ((win0_12.blk t).view.emb y 0) ((win0_12.blk t).view.emb y 1)) ((win0_12.blk t).view.emb y 2)
  rw [E0, E1, E2, arow_blk m c t _ _ hb hr hR]
  try rfl

/-- Result 3 at an index. -/
def G13 (c : Dev nD) : Arr 2 ![2, 12240] := fun j => rowScale (arowA (m ((c.tc : Thread nD τ).loc main_arg0)) (j 0) (j 1))

theorem arr13 (c : Dev nD) : (dats m 0 c).arrAt 13 (cfgs 0).N = G13 m c := by
  refine (dats m 0 c).arrAt_eq_of_covers 13 _ (by decide +kernel) fun t hf y => ?_
  blk_simp
  rw [after0_13]
  have h := (idx t).2.2.2.2.2.2.2.2.2.2.2.2.2.1
  have hx : win0_13.xsize (grid0.coords t) 1 = min 256 (12240 - t.val * 256) :=
    ((xs t).2.2.2.2.1).trans (idx t).2.2.2.2.2.2.2.2.2.2.2.2.2.2.2.2.2.2.2
  have hb : (y 0).val < 2 := lt_of_lt_of_le (y 0).isLt (win0_13.xsize_le (grid0.coords t) 0)
  have hr' : (y 1).val < min 256 (12240 - t.val * 256) := hx ▸ (y 1).isLt
  have hr : (y 1).val < 256 := by omega
  have hR : t.val * 256 + (y 1).val < 12240 := by omega
  have E0 : ((win0_13.blk t).view.emb y 0 : Fin 2) = ⟨(y 0).val, hb⟩ := Fin.ext (by blk_simp [h])
  have E1 : ((win0_13.blk t).view.emb y 1 : Fin 12240) = ⟨t.val * 256 + (y 1).val, hR⟩ := Fin.ext (by blk_simp [h])
  show rowScale (arow (iblk m c 0 t) (y 0).val (y 1).val)
    = rowScale (arowA (m ((c.tc : Thread nD τ).loc main_arg0)) ((win0_13.blk t).view.emb y 0) ((win0_13.blk t).view.emb y 1))
  rw [E0, E1, arow_blk m c t _ _ hb hr hR]
  try rfl

/-- Result 4 at an index. -/
def G14 (c : Dev nD) : Arr 3 ![2, 12240, 2560] := fun j => rowCodes (rowN (parM m c (j 0)) (arowA (m ((c.tc : Thread nD τ).loc main_arg0)) (j 0) (j 1)) (xrowA (m ((c.tc : Thread nD τ).loc main_arg1)) (j 0) (j 1))) (j 2)

theorem arr14 (c : Dev nD) : (dats m 0 c).arrAt 14 (cfgs 0).N = G14 m c := by
  refine (dats m 0 c).arrAt_eq_of_covers 14 _ (by decide +kernel) fun t hf y => ?_
  blk_simp
  rw [after0_14]
  have h := (idx t).2.2.2.2.2.2.2.2.2.2.2.2.2.2.1
  have hx : win0_14.xsize (grid0.coords t) 1 = min 256 (12240 - t.val * 256) :=
    ((xs t).2.2.2.2.2.1).trans (idx t).2.2.2.2.2.2.2.2.2.2.2.2.2.2.2.2.2.2.2
  have hb : (y 0).val < 2 := lt_of_lt_of_le (y 0).isLt (win0_14.xsize_le (grid0.coords t) 0)
  have hr' : (y 1).val < min 256 (12240 - t.val * 256) := hx ▸ (y 1).isLt
  have hr : (y 1).val < 256 := by omega
  have hR : t.val * 256 + (y 1).val < 12240 := by omega
  have E0 : ((win0_14.blk t).view.emb y 0 : Fin 2) = ⟨(y 0).val, hb⟩ := Fin.ext (by blk_simp [h])
  have E1 : ((win0_14.blk t).view.emb y 1 : Fin 12240) = ⟨t.val * 256 + (y 1).val, hR⟩ := Fin.ext ((win0_14.rect_emb_val t y 1).trans (by rw [h]; rfl))
  have hk : (y 2).val < 2560 := by
    have h1 := (y 2).isLt
    have h2 := win0_14.xsize_le (grid0.coords t) 2
    have e : win0_14.size 2 = 2560 := rfl
    rw [e] at h2
    exact lt_of_lt_of_le h1 h2
  have E2 : ((win0_14.blk t).view.emb y 2 : Fin 2560) = ⟨(y 2).val, hk⟩ := Fin.ext (win0_14.rect_emb_val_of_index_zero t 2 (by rw [h]; rfl) y)
  show rowCodes (rowN (parAt m c t (y 0).val) (arow (iblk m c 0 t) (y 0).val (y 1).val) (xrow (xAt m c t) (y 0).val (y 1).val)) ⟨(y 2).val, hk⟩
    = rowCodes (rowN (parM m c ((win0_14.blk t).view.emb y 0)) (arowA (m ((c.tc : Thread nD τ).loc main_arg0)) ((win0_14.blk t).view.emb y 0) ((win0_14.blk t).view.emb y 1)) (xrowA (m ((c.tc : Thread nD τ).loc main_arg1)) ((win0_14.blk t).view.emb y 0) ((win0_14.blk t).view.emb y 1))) ((win0_14.blk t).view.emb y 2)
  rw [E0, E1, E2, arow_blk m c t _ _ hb hr hR, xrow_blk m c t _ _ hb hr hR, par_blk m c t _ hb]
  try rfl

/-- Result 5 at an index. -/
def G15 (c : Dev nD) : Arr 2 ![2, 12240] := fun j => rowScale (rowN (parM m c (j 0)) (arowA (m ((c.tc : Thread nD τ).loc main_arg0)) (j 0) (j 1)) (xrowA (m ((c.tc : Thread nD τ).loc main_arg1)) (j 0) (j 1)))

theorem arr15 (c : Dev nD) : (dats m 0 c).arrAt 15 (cfgs 0).N = G15 m c := by
  refine (dats m 0 c).arrAt_eq_of_covers 15 _ (by decide +kernel) fun t hf y => ?_
  blk_simp
  rw [after0_15]
  have h := (idx t).2.2.2.2.2.2.2.2.2.2.2.2.2.2.2.1
  have hx : win0_15.xsize (grid0.coords t) 1 = min 256 (12240 - t.val * 256) :=
    ((xs t).2.2.2.2.2.2.1).trans (idx t).2.2.2.2.2.2.2.2.2.2.2.2.2.2.2.2.2.2.2
  have hb : (y 0).val < 2 := lt_of_lt_of_le (y 0).isLt (win0_15.xsize_le (grid0.coords t) 0)
  have hr' : (y 1).val < min 256 (12240 - t.val * 256) := hx ▸ (y 1).isLt
  have hr : (y 1).val < 256 := by omega
  have hR : t.val * 256 + (y 1).val < 12240 := by omega
  have E0 : ((win0_15.blk t).view.emb y 0 : Fin 2) = ⟨(y 0).val, hb⟩ := Fin.ext (by blk_simp [h])
  have E1 : ((win0_15.blk t).view.emb y 1 : Fin 12240) = ⟨t.val * 256 + (y 1).val, hR⟩ := Fin.ext (by blk_simp [h])
  show rowScale (rowN (parAt m c t (y 0).val) (arow (iblk m c 0 t) (y 0).val (y 1).val) (xrow (xAt m c t) (y 0).val (y 1).val))
    = rowScale (rowN (parM m c ((win0_15.blk t).view.emb y 0)) (arowA (m ((c.tc : Thread nD τ).loc main_arg0)) ((win0_15.blk t).view.emb y 0) ((win0_15.blk t).view.emb y 1)) (xrowA (m ((c.tc : Thread nD τ).loc main_arg1)) ((win0_15.blk t).view.emb y 0) ((win0_15.blk t).view.emb y 1)))
  rw [E0, E1, arow_blk m c t _ _ hb hr hR, xrow_blk m c t _ _ hb hr hR, par_blk m c t _ hb]
  try rfl

/-- Result 6 at an index. -/
def G16 (c : Dev nD) : Arr 3 ![2, 1728, 12240] := fun j => rowCodes (rowH (parM m c (j 0)) (arowA (m ((c.tc : Thread nD τ).loc main_arg0)) (j 0) (j 2)) (xrowA (m ((c.tc : Thread nD τ).loc main_arg1)) (j 0) (j 2))) (j 1)

theorem arr16 (c : Dev nD) : (dats m 0 c).arrAt 16 (cfgs 0).N = G16 m c := by
  refine (dats m 0 c).arrAt_eq_of_covers 16 _ (by decide +kernel) fun t hf y => ?_
  blk_simp
  rw [after0_16]
  have h := (idx t).2.2.2.2.2.2.2.2.2.2.2.2.2.2.2.2.1
  have hx : win0_16.xsize (grid0.coords t) 2 = min 256 (12240 - t.val * 256) :=
    ((xs t).2.2.2.2.2.2.2.1).trans (idx t).2.2.2.2.2.2.2.2.2.2.2.2.2.2.2.2.2.2.2
  have hb : (y 0).val < 2 := lt_of_lt_of_le (y 0).isLt (win0_16.xsize_le (grid0.coords t) 0)
  have hr' : (y 2).val < min 256 (12240 - t.val * 256) := hx ▸ (y 2).isLt
  have hr : (y 2).val < 256 := by omega
  have hR : t.val * 256 + (y 2).val < 12240 := by omega
  have E0 : ((win0_16.blk t).view.emb y 0 : Fin 2) = ⟨(y 0).val, hb⟩ := Fin.ext (by blk_simp [h])
  have E1 : ((win0_16.blk t).view.emb y 2 : Fin 12240) = ⟨t.val * 256 + (y 2).val, hR⟩ := Fin.ext ((win0_16.rect_emb_val t y 2).trans (by rw [h]; rfl))
  have hk : (y 1).val < 1728 := by
    have h1 := (y 1).isLt
    have h2 := win0_16.xsize_le (grid0.coords t) 1
    have e : win0_16.size 1 = 1728 := rfl
    rw [e] at h2
    exact lt_of_lt_of_le h1 h2
  have E2 : ((win0_16.blk t).view.emb y 1 : Fin 1728) = ⟨(y 1).val, hk⟩ := Fin.ext (win0_16.rect_emb_val_of_index_zero t 1 (by rw [h]; rfl) y)
  show rowCodes (rowH (parAt m c t (y 0).val) (arow (iblk m c 0 t) (y 0).val (y 2).val) (xrow (xAt m c t) (y 0).val (y 2).val)) ⟨(y 1).val, hk⟩
    = rowCodes (rowH (parM m c ((win0_16.blk t).view.emb y 0)) (arowA (m ((c.tc : Thread nD τ).loc main_arg0)) ((win0_16.blk t).view.emb y 0) ((win0_16.blk t).view.emb y 2)) (xrowA (m ((c.tc : Thread nD τ).loc main_arg1)) ((win0_16.blk t).view.emb y 0) ((win0_16.blk t).view.emb y 2))) ((win0_16.blk t).view.emb y 1)
  rw [E0, E1, E2, arow_blk m c t _ _ hb hr hR, xrow_blk m c t _ _ hb hr hR, par_blk m c t _ hb]
  try rfl

/-- Result 7 at an index. -/
def G17 (c : Dev nD) : Arr 2 ![2, 12240] := fun j => rowScale (rowH (parM m c (j 0)) (arowA (m ((c.tc : Thread nD τ).loc main_arg0)) (j 0) (j 1)) (xrowA (m ((c.tc : Thread nD τ).loc main_arg1)) (j 0) (j 1)))

theorem arr17 (c : Dev nD) : (dats m 0 c).arrAt 17 (cfgs 0).N = G17 m c := by
  refine (dats m 0 c).arrAt_eq_of_covers 17 _ (by decide +kernel) fun t hf y => ?_
  blk_simp
  rw [after0_17]
  have h := (idx t).2.2.2.2.2.2.2.2.2.2.2.2.2.2.2.2.2.1
  have hx : win0_17.xsize (grid0.coords t) 1 = min 256 (12240 - t.val * 256) :=
    ((xs t).2.2.2.2.2.2.2.2.1).trans (idx t).2.2.2.2.2.2.2.2.2.2.2.2.2.2.2.2.2.2.2
  have hb : (y 0).val < 2 := lt_of_lt_of_le (y 0).isLt (win0_17.xsize_le (grid0.coords t) 0)
  have hr' : (y 1).val < min 256 (12240 - t.val * 256) := hx ▸ (y 1).isLt
  have hr : (y 1).val < 256 := by omega
  have hR : t.val * 256 + (y 1).val < 12240 := by omega
  have E0 : ((win0_17.blk t).view.emb y 0 : Fin 2) = ⟨(y 0).val, hb⟩ := Fin.ext (by blk_simp [h])
  have E1 : ((win0_17.blk t).view.emb y 1 : Fin 12240) = ⟨t.val * 256 + (y 1).val, hR⟩ := Fin.ext (by blk_simp [h])
  show rowScale (rowH (parAt m c t (y 0).val) (arow (iblk m c 0 t) (y 0).val (y 1).val) (xrow (xAt m c t) (y 0).val (y 1).val))
    = rowScale (rowH (parM m c ((win0_17.blk t).view.emb y 0)) (arowA (m ((c.tc : Thread nD τ).loc main_arg0)) ((win0_17.blk t).view.emb y 0) ((win0_17.blk t).view.emb y 1)) (xrowA (m ((c.tc : Thread nD τ).loc main_arg1)) ((win0_17.blk t).view.emb y 0) ((win0_17.blk t).view.emb y 1)))
  rw [E0, E1, arow_blk m c t _ _ hb hr hR, xrow_blk m c t _ _ hb hr hR, par_blk m c t _ hb]
  try rfl

/-- Result 8 at an index. -/
def G18 (c : Dev nD) : Arr 3 ![2, 12240, 640] := fun j => (arowA (m ((c.tc : Thread nD τ).loc main_arg0)) (j 0) (j 1)) (j 2)

theorem arr18 (c : Dev nD) : (dats m 0 c).arrAt 18 (cfgs 0).N = G18 m c := by
  refine (dats m 0 c).arrAt_eq_of_covers 18 _ (by decide +kernel) fun t hf y => ?_
  blk_simp
  rw [after0_18]
  have h := (idx t).2.2.2.2.2.2.2.2.2.2.2.2.2.2.2.2.2.2.1
  have hx : win0_18.xsize (grid0.coords t) 1 = min 256 (12240 - t.val * 256) :=
    ((xs t).2.2.2.2.2.2.2.2.2).trans (idx t).2.2.2.2.2.2.2.2.2.2.2.2.2.2.2.2.2.2.2
  have hb : (y 0).val < 2 := lt_of_lt_of_le (y 0).isLt (win0_18.xsize_le (grid0.coords t) 0)
  have hr' : (y 1).val < min 256 (12240 - t.val * 256) := hx ▸ (y 1).isLt
  have hr : (y 1).val < 256 := by omega
  have hR : t.val * 256 + (y 1).val < 12240 := by omega
  have E0 : ((win0_18.blk t).view.emb y 0 : Fin 2) = ⟨(y 0).val, hb⟩ := Fin.ext (by blk_simp [h])
  have E1 : ((win0_18.blk t).view.emb y 1 : Fin 12240) = ⟨t.val * 256 + (y 1).val, hR⟩ := Fin.ext ((win0_18.rect_emb_val t y 1).trans (by rw [h]; rfl))
  have hk : (y 2).val < 640 := by
    have h1 := (y 2).isLt
    have h2 := win0_18.xsize_le (grid0.coords t) 2
    have e : win0_18.size 2 = 640 := rfl
    rw [e] at h2
    exact lt_of_lt_of_le h1 h2
  have E2 : ((win0_18.blk t).view.emb y 2 : Fin 640) = ⟨(y 2).val, hk⟩ := Fin.ext (win0_18.rect_emb_val_of_index_zero t 2 (by rw [h]; rfl) y)
  show (arow (iblk m c 0 t) (y 0).val (y 1).val) ⟨(y 2).val, hk⟩
    = (arowA (m ((c.tc : Thread nD τ).loc main_arg0)) ((win0_18.blk t).view.emb y 0) ((win0_18.blk t).view.emb y 1)) ((win0_18.blk t).view.emb y 2)
  rw [E0, E1, E2, arow_blk m c t _ _ hb hr hR]
  try rfl

end Cert.KernelIdeal.Tail

end
-- ==== Proof.RefRows.lean ====
/- The reference's steps read at an index: each value its body binds, against the row functions of `Rows`. -/
module

public import proofs.«01_k».proof.Proof.Gen.ReferenceIdeal.Skeleton
public import proofs.«01_k».proof.Proof.Rows
public import Idealize.ShloMosaic.Lib.Pointwise

@[expose] public section

set_option maxRecDepth 16384

noncomputable section

namespace Cert.ReferenceIdeal.Tail

open Cert.ReferenceIdeal.Gen Cert.Tail
open Idealize.ShloMosaic Idealize.ShloMosaic.TcCoe Idealize.ShloMosaic.Tactic

variable (b : Fin 2) (r : Fin 12240)

/-! ## The operations read at an index -/

section
variable {s : Shape} {φ : FTy} (j : s.Idx)

/-- A product of codes with its two scales. -/
theorem deq_at {n : ℕ} (acc sc ws : FVec Ideal s .f32) (v w : Fin n → EReal) (t : EReal)
    (h1 : acc j = (∑ k, rowCodes v k * w k : EReal)) (h2 : sc j = rowScale v) (h3 : ws j = t) :
    mulf (mulf acc sc) ws j = rowDot v w t := by
  unfold rowDot
  rw [← h1, ← h2, ← h3]
  rfl

/-- A gated branch added to a row. -/
theorem res_at (y g d : FVec Ideal s .f32) (Y G D : EReal) (hy : y j = Y) (hg : g j = G) (hd : d j = D) :
    addf y (mulf g d) j = Y + G * D := by
  rw [← hy, ← hg, ← hd]
  rfl

/-- A scale from its row's largest magnitude. -/
theorem scale_at {n : ℕ} (m : FVec Ideal s .f32) (a : Fin n → EReal) (h : m j = rowMax a) :
    select (cmpf .oeq m (broadcast s (Scalar.ofBits (F := Ideal) .f32 0x00000000#32))) (broadcast s (Scalar.ofBits (F := Ideal) .f32 0x3F800000#32))
      (divf m (broadcast s (Scalar.ofBits (F := Ideal) .f32 0x43E00000#32))) j = rowScale a := by
  unfold rowScale
  rw [← h]
  pointwise []

/-- A code from its entry and its row's scale. -/
theorem code_at {n : ℕ} (v w : FVec Ideal s .f32) (a : Fin n → EReal) (k : Fin n) (hv : v j = a k) (hw : w j = rowScale a) (hb) :
    (truncf .fp8e4m3 (minimumf (broadcast s (Scalar.ofBits (F := Ideal) .f32 0x43E00000#32)) (maximumf (broadcast s (Scalar.ofBits (F := Ideal) .f32 0xC3E00000#32))
      (divf v w))) hb : FVec Ideal s .fp8e4m3) j = rowCodes a k := by
  unfold rowCodes
  rw [← hv, ← hw]
  pointwise []
end

/-- A vector of sums or maxima as a column. -/
theorem col_at (m : FVec Ideal S2x12240 .f32) : shapeCast S2x12240x1 m shapeCasts_S2x12240_S2x12240x1 (ix3 b r 0) = m (ix2 b r) := by
  pointwise []

theorem max640_at (v : FVec Ideal S2x12240x640 .f32) :
    multiReduction .maximumf [2] S2x12240 (absf v) 0xFF800000#32 reduces_S2x12240x640_S2x12240 (.inl rfl) rfl (ix2 b r) = rowMax fun k => v (ix3 b r k) := by
  pointwise [rowMax]

theorem bc640_at (v : FVec Ideal S2x12240x1 .f32) (k : Fin 640) :
    broadcastTo S2x12240x640 v broadcasts_S2x12240x1_S2x12240x640 (ix3 b r k) = v (ix3 b r 0) := by
  pointwise []

theorem max2560_at (v : FVec Ideal S2x12240x2560 .f32) :
    multiReduction .maximumf [2] S2x12240 (absf v) 0xFF800000#32 reduces_S2x12240x2560_S2x12240 (.inl rfl) rfl (ix2 b r) = rowMax fun k => v (ix3 b r k) := by
  pointwise [rowMax]

theorem bc2560_at (v : FVec Ideal S2x12240x1 .f32) (k : Fin 2560) :
    broadcastTo S2x12240x2560 v broadcasts_S2x12240x1_S2x12240x2560 (ix3 b r k) = v (ix3 b r 0) := by
  pointwise []

theorem max1728_at (v : FVec Ideal S2x12240x1728 .f32) :
    multiReduction .maximumf [2] S2x12240 (absf v) 0xFF800000#32 reduces_S2x12240x1728_S2x12240 (.inl rfl) rfl (ix2 b r) = rowMax fun k => v (ix3 b r k) := by
  pointwise [rowMax]

theorem bc1728_at (v : FVec Ideal S2x12240x1 .f32) (k : Fin 1728) :
    broadcastTo S2x12240x1728 v broadcasts_S2x12240x1_S2x12240x1728 (ix3 b r k) = v (ix3 b r 0) := by
  pointwise []

theorem row2560_at {α : Type} (v : S2560.Idx → α) (k : Fin 2560) :
    broadcastTo S2x12240x2560 (shapeCast S1x1x2560 v shapeCasts_S2560_S1x1x2560) broadcasts_S1x1x2560_S2x12240x2560 (ix3 b r k) = v (ix1 k) := by
  pointwise []

theorem row1728_at {α : Type} (v : S1728.Idx → α) (k : Fin 1728) :
    broadcastTo S2x12240x1728 (shapeCast S1x1x1728 v shapeCasts_S1728_S1x1x1728) broadcasts_S1x1x1728_S2x12240x1728 (ix3 b r k) = v (ix1 k) := by
  pointwise []

theorem mod_at {α : Type} (v : S2x1x2560.Idx → α) (k : Fin 2560) :
    broadcastTo S2x12240x2560 v broadcasts_S2x1x2560_S2x12240x2560 (ix3 b r k) = v (ix3 b 0 k) := by
  pointwise []

theorem dot640_at (v : FVec Ideal S2x12240x640 .fp8e4m3) (w : FVec Ideal S640x2560 .fp8e4m3) (k : Fin 2560) :
    matmul dot_S2x12240x640_S640x2560_S2x12240x2560_2_0_01_1_n_n none v w (constant S2x12240x2560 .f32 0x00000000#32) (ix3 b r k)
      = ∑ l, ((v (ix3 b r l) : EReal) * (w (ix2 l k) : EReal) : EReal) := by
  pointwise []

theorem dot2560_at (v : FVec Ideal S2x12240x2560 .fp8e4m3) (w : FVec Ideal S2560x1728 .fp8e4m3) (k : Fin 1728) :
    matmul dot_S2x12240x2560_S2560x1728_S2x12240x1728_2_0_01_1_n_n none v w (constant S2x12240x1728 .f32 0x00000000#32) (ix3 b r k)
      = ∑ l, ((v (ix3 b r l) : EReal) * (w (ix2 l k) : EReal) : EReal) := by
  pointwise []

theorem dot1728_at (v : FVec Ideal S2x12240x1728 .fp8e4m3) (w : FVec Ideal S1728x2560 .fp8e4m3) (k : Fin 2560) :
    matmul dot_S2x12240x1728_S1728x2560_S2x12240x2560_2_0_01_1_n_n none v w (constant S2x12240x2560 .f32 0x00000000#32) (ix3 b r k)
      = ∑ l, ((v (ix3 b r l) : EReal) * (w (ix2 l k) : EReal) : EReal) := by
  pointwise []

/-! ## The attention rows quantised -/

section
variable (v0 : Vec Ideal S2x12240x640 .f32) (a : Fin 640 → EReal) (ha : ∀ k, v0 (ix3 b r k) = a k)
include ha

theorem pay5_at (k : Fin 640) : k0_pay5 (F := Ideal) v0 (ix3 b r k) = a k := by
  rw [← ha]
  pointwise [k0_pay5]

theorem pay6_at : k0_pay6 (F := Ideal) v0 (ix3 b r 0) = rowScale a := by
  refine scale_at _ _ a ((col_at b r _).trans ((max640_at b r _).trans ?_))
  exact congrArg rowMax (funext (pay5_at b r v0 a ha))

theorem pay7_at (k : Fin 640) : k0_pay7 (F := Ideal) v0 (ix3 b r k) = rowCodes a k := by
  exact code_at _ _ _ a k (pay5_at b r v0 a ha k) ((bc640_at b r _ k).trans (pay6_at b r v0 a ha)) _

/-! ## The rows after the attention branch -/

theorem pay8_at (v18 : Vec Ideal S2x12240x2560 .bf16) (v20 : Vec Ideal S2x1x2560 .f32) (v21 : Vec Ideal S640x2560 .fp8e4m3) (v22 : Vec Ideal S2560 .f32)
    (p : Par) (x : Fin 2560 → EReal) (hx : ∀ k, v18 (ix3 b r k) = x k) (hg : ∀ k, v20 (ix3 b 0 k) = p.gate1 k)
    (hw : ∀ k c, v21 (ix2 k c) = p.wo k c) (hs : ∀ c, v22 (ix1 c) = p.so c) (c : Fin 2560) :
    k0_pay8 (F := Ideal) v0 v18 v20 v21 v22 (ix3 b r c) = rowY p a x c := by
  have h7 := pay7_at b r v0 a ha
  refine res_at _ _ _ _ (x c) (p.gate1 c) _ (hx c) ((mod_at b r _ c).trans (hg c)) ?_
  refine deq_at _ _ _ _ a (fun k => p.wo k c) (p.so c) ((dot640_at b r _ _ c).trans (Finset.sum_congr rfl fun k _ => ?_))
    ((bc2560_at b r _ c).trans (pay6_at b r v0 a ha)) ((row2560_at b r _ c).trans (hs c))
  rw [h7, hw]
end

/-! ## Normed, modulated and quantised -/

section
variable (v31 : FVec Ideal S2x12240x2560 .f32) (v32 v33 : Vec Ideal S2x1x2560 .f32) (v34 : FVec Ideal S2x12240x2560 .f32)
  (y sh sc : Fin 2560 → EReal) (h31 : ∀ k, v31 (ix3 b r k) = y k) (h34 : ∀ k, v34 (ix3 b r k) = y k * y k)
  (h32 : ∀ k, v32 (ix3 b 0 k) = sh k) (h33 : ∀ k, v33 (ix3 b 0 k) = sc k)
include h31 h34 h32 h33

theorem pay10_at (k : Fin 2560) : k0_pay10 (F := Ideal) v31 v32 v33 v34 (ix3 b r k) = rowNorm sh sc y k := by
  pointwise [k0_pay10, rowNorm]
  simp only [h31, h34, h32, h33]

theorem pay11_at : k0_pay11 (F := Ideal) v31 v32 v33 v34 (ix3 b r 0) = rowScale (rowNorm sh sc y) := by
  refine scale_at _ _ _ ((col_at b r _).trans ((max2560_at b r _).trans ?_))
  exact congrArg rowMax (funext (pay10_at b r v31 v32 v33 v34 y sh sc h31 h34 h32 h33))

theorem pay12_at (k : Fin 2560) : k0_pay12 (F := Ideal) v31 v32 v33 v34 (ix3 b r k) = rowCodes (rowNorm sh sc y) k := by
  exact code_at _ _ _ _ k (pay10_at b r v31 v32 v33 v34 y sh sc h31 h34 h32 h33 k) ((bc2560_at b r _ k).trans (pay11_at b r v31 v32 v33 v34 y sh sc h31 h34 h32 h33)) _

/-! ## The two up projections -/

theorem pay13_at (v66 : Vec Ideal S2560x1728 .fp8e4m3) (v67 : Vec Ideal S1728 .f32) (w : Fin 1728 → Fin 2560 → EReal) (s : Fin 1728 → EReal)
    (hw : ∀ k j, v66 (ix2 k j) = w j k) (hs : ∀ j, v67 (ix1 j) = s j) (j : Fin 1728) :
    k0_pay13 (F := Ideal) v31 v32 v33 v34 v66 v67 (ix3 b r j) = rowDot (rowNorm sh sc y) (w j) (s j) := by
  have h12 := pay12_at b r v31 v32 v33 v34 y sh sc h31 h34 h32 h33
  refine deq_at _ _ _ _ _ (w j) (s j) ((dot2560_at b r _ _ j).trans (Finset.sum_congr rfl fun k _ => ?_))
    ((bc1728_at b r _ j).trans (pay11_at b r v31 v32 v33 v34 y sh sc h31 h34 h32 h33)) ((row1728_at b r _ j).trans (hs j))
  rw [h12, hw]

theorem pay14_at (v74 : Vec Ideal S2560x1728 .fp8e4m3) (w : Fin 1728 → Fin 2560 → EReal)
    (hw : ∀ k j, v74 (ix2 k j) = w j k) (j : Fin 1728) :
    k0_pay14 (F := Ideal) v31 v32 v33 v34 v74 (ix3 b r j) = ∑ k, rowCodes (rowNorm sh sc y) k * w j k := by
  have h12 := pay12_at b r v31 v32 v33 v34 y sh sc h31 h34 h32 h33
  pointwise [k0_pay14]
  simp only [h12, hw]
end

/-! ## The gated hidden rows, quantised, and the down projection -/

section
variable (v58 : FVec Ideal S2x12240x1 .f32) (v73 : FVec Ideal S2x12240x1728 .f32) (v75 : Vec Ideal S1728 .f32) (v76 : FVec Ideal S2x12240x1728 .f32)
  (p : Par) (a : Fin 640 → EReal) (x : Fin 2560 → EReal)
  (h58 : v58 (ix3 b r 0) = rowScale (rowN p a x)) (h73 : ∀ j, v73 (ix3 b r j) = rowDot (rowN p a x) (p.w1 j) (p.s1 j))
  (h75 : ∀ j, v75 (ix1 j) = p.s3 j) (h76 : ∀ j, v76 (ix3 b r j) = ∑ k, rowCodes (rowN p a x) k * p.w3 j k)
include h58 h73 h75 h76

theorem pay15_at (j : Fin 1728) : k0_pay15 (F := Ideal) v58 v73 v75 v76 (ix3 b r j) = rowH p a x j := by
  unfold rowH
  generalize hg : rowDot (rowN p a x) (p.w1 j) (p.s1 j) = g
  have h73 := (h73 j).trans hg
  pointwise [k0_pay15, rowDot]
  simp only [h58, h73, h75, h76]

theorem pay16_at : k0_pay16 (F := Ideal) v58 v73 v75 v76 (ix3 b r 0) = rowScale (rowH p a x) := by
  refine scale_at _ _ _ ((col_at b r _).trans ((max1728_at b r _).trans ?_))
  exact congrArg rowMax (funext (pay15_at b r v58 v73 v75 v76 p a x h58 h73 h75 h76))

theorem pay17_at (j : Fin 1728) : k0_pay17 (F := Ideal) v58 v73 v75 v76 (ix3 b r j) = rowCodes (rowH p a x) j := by
  exact code_at _ _ _ _ j (pay15_at b r v58 v73 v75 v76 p a x h58 h73 h75 h76 j) ((bc1728_at b r _ j).trans (pay16_at b r v58 v73 v75 v76 p a x h58 h73 h75 h76)) _

theorem pay18_at (v31 : FVec Ideal S2x12240x2560 .f32) (v101 : Vec Ideal S2x1x2560 .f32) (v102 : Vec Ideal S1728x2560 .fp8e4m3) (v103 : Vec Ideal S2560 .f32)
    (h31 : ∀ c, v31 (ix3 b r c) = rowY p a x c) (hg : ∀ c, v101 (ix3 b 0 c) = p.gate2 c) (hw : ∀ j c, v102 (ix2 j c) = p.w2 j c)
    (hs : ∀ c, v103 (ix1 c) = p.s2 c) (c : Fin 2560) :
    k0_pay18 (F := Ideal) v31 v58 v73 v75 v76 v101 v102 v103 (ix3 b r c) = rowO p a x c := by
  have h17 := pay17_at b r v58 v73 v75 v76 p a x h58 h73 h75 h76
  refine res_at _ _ _ _ _ (p.gate2 c) _ (h31 c) ((mod_at b r _ c).trans (hg c)) ?_
  refine deq_at _ _ _ _ _ (fun j => p.w2 j c) (p.s2 c) ((dot1728_at b r _ _ c).trans (Finset.sum_congr rfl fun j _ => ?_))
    ((bc2560_at b r _ c).trans (pay16_at b r v58 v73 v75 v76 p a x h58 h73 h75 h76)) ((row2560_at b r _ c).trans (hs c))
  rw [h17, hw]
end

end Cert.ReferenceIdeal.Tail

end
-- ==== Proof.RefLoads.lean ====
/- The reference's result arrays after a run, at an index: the row functions of the argument arrays. -/
module

public import proofs.«01_k».proof.Proof.Gen.ReferenceIdeal.Frame
public import proofs.«01_k».proof.Proof.Arrays
public import proofs.«01_k».proof.Proof.RefRows
public import Idealize.ShloMosaic.Lib.Pipeline.ValueKit

@[expose] public section

set_option maxRecDepth 16384

noncomputable section

namespace Cert.ReferenceIdeal.Tail

open Cert.ReferenceIdeal.Gen Cert.Tail
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The one block of every window lies at the array's origin. -/
theorem idx (t : Fin cfg0.N) : (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) ∧ (∀ a, win0_6.index t a = 0)
    ∧ (∀ a, win0_7.index t a = 0) ∧ (∀ a, win0_8.index t a = 0) ∧ (∀ a, win0_9.index t a = 0) ∧ (∀ a, win0_10.index t a = 0) := by
  revert t; decide +kernel

/-! ## The blocks are the arrays -/

theorem iblk0 (c : Dev nD) (t : Fin cfg0.N) : (iblk m c 0 t : S2x12240x640.Idx → EReal) = V m c main_v2 := by
  funext j
  show V m c main_v2 ((win0_0.rect t).emb j) = V m c main_v2 j
  congr 1
  funext a
  exact Fin.ext (win0_0.rect_emb_val_of_index_zero t a ((idx t).1 a) j)

theorem iblk1 (c : Dev nD) (t : Fin cfg0.N) : (iblk m c 1 t : S2x12240x2560.Idx → EReal) = m ((c.tc : Thread nD τ).loc main_arg1) := by
  refine Eq.trans (b := V m c main_arg1) ?_ (V_main_arg1 m c)
  funext j
  show V m c main_arg1 ((win0_1.rect t).emb j) = V m c main_arg1 j
  congr 1
  funext a
  exact Fin.ext (win0_1.rect_emb_val_of_index_zero t a ((idx t).2.1 a) j)

theorem iblk2 (c : Dev nD) (t : Fin cfg0.N) : (iblk m c 2 t : S2x6x2560.Idx → EReal) = m ((c.tc : Thread nD τ).loc main_arg2) := by
  refine Eq.trans (b := V m c main_arg2) ?_ (V_main_arg2 m c)
  funext j
  show V m c main_arg2 ((win0_2.rect t).emb j) = V m c main_arg2 j
  congr 1
  funext a
  exact Fin.ext (win0_2.rect_emb_val_of_index_zero t a ((idx t).2.2.1 a) j)

theorem iblk3 (c : Dev nD) (t : Fin cfg0.N) : (iblk m c 3 t : S640x2560.Idx → EReal) = m ((c.tc : Thread nD τ).loc main_arg3) := by
  refine Eq.trans (b := V m c main_arg3) ?_ (V_main_arg3 m c)
  funext j
  show V m c main_arg3 ((win0_3.rect t).emb j) = V m c main_arg3 j
  congr 1
  funext a
  exact Fin.ext (win0_3.rect_emb_val_of_index_zero t a ((idx t).2.2.2.1 a) j)

theorem iblk4 (c : Dev nD) (t : Fin cfg0.N) : (iblk m c 4 t : S2560.Idx → EReal) = m ((c.tc : Thread nD τ).loc main_arg4) := by
  refine Eq.trans (b := V m c main_arg4) ?_ (V_main_arg4 m c)
  funext j
  show V m c main_arg4 ((win0_4.rect t).emb j) = V m c main_arg4 j
  congr 1
  funext a
  exact Fin.ext (win0_4.rect_emb_val_of_index_zero t a ((idx t).2.2.2.2.1 a) j)

theorem iblk5 (c : Dev nD) (t : Fin cfg0.N) : (iblk m c 5 t : S2560x1728.Idx → EReal) = m ((c.tc : Thread nD τ).loc main_arg5) := by
  refine Eq.trans (b := V m c main_arg5) ?_ (V_main_arg5 m c)
  funext j
  show V m c main_arg5 ((win0_5.rect t).emb j) = V m c main_arg5 j
  congr 1
  funext a
  exact Fin.ext (win0_5.rect_emb_val_of_index_zero t a ((idx t).2.2.2.2.2.1 a) j)

theorem iblk6 (c : Dev nD) (t : Fin cfg0.N) : (iblk m c 6 t : S1728.Idx → EReal) = m ((c.tc : Thread nD τ).loc main_arg6) := by
  refine Eq.trans (b := V m c main_arg6) ?_ (V_main_arg6 m c)
  funext j
  show V m c main_arg6 ((win0_6.rect t).emb j) = V m c main_arg6 j
  congr 1
  funext a
  exact Fin.ext (win0_6.rect_emb_val_of_index_zero t a ((idx t).2.2.2.2.2.2.1 a) j)

theorem iblk7 (c : Dev nD) (t : Fin cfg0.N) : (iblk m c 7 t : S2560x1728.Idx → EReal) = m ((c.tc : Thread nD τ).loc main_arg7) := by
  refine Eq.trans (b := V m c main_arg7) ?_ (V_main_arg7 m c)
  funext j
  show V m c main_arg7 ((win0_7.rect t).emb j) = V m c main_arg7 j
  congr 1
  funext a
  exact Fin.ext (win0_7.rect_emb_val_of_index_zero t a ((idx t).2.2.2.2.2.2.2.1 a) j)

theorem iblk8 (c : Dev nD) (t : Fin cfg0.N) : (iblk m c 8 t : S1728.Idx → EReal) = m ((c.tc : Thread nD τ).loc main_arg8) := by
  refine Eq.trans (b := V m c main_arg8) ?_ (V_main_arg8 m c)
  funext j
  show V m c main_arg8 ((win0_8.rect t).emb j) = V m c main_arg8 j
  congr 1
  funext a
  exact Fin.ext (win0_8.rect_emb_val_of_index_zero t a ((idx t).2.2.2.2.2.2.2.2.1 a) j)

theorem iblk9 (c : Dev nD) (t : Fin cfg0.N) : (iblk m c 9 t : S1728x2560.Idx → EReal) = m ((c.tc : Thread nD τ).loc main_arg9) := by
  refine Eq.trans (b := V m c main_arg9) ?_ (V_main_arg9 m c)
  funext j
  show V m c main_arg9 ((win0_9.rect t).emb j) = V m c main_arg9 j
  congr 1
  funext a
  exact Fin.ext (win0_9.rect_emb_val_of_index_zero t a ((idx t).2.2.2.2.2.2.2.2.2.1 a) j)

theorem iblk10 (c : Dev nD) (t : Fin cfg0.N) : (iblk m c 10 t : S2560.Idx → EReal) = m ((c.tc : Thread nD τ).loc main_arg10) := by
  refine Eq.trans (b := V m c main_arg10) ?_ (V_main_arg10 m c)
  funext j
  show V m c main_arg10 ((win0_10.rect t).emb j) = V m c main_arg10 j
  congr 1
  funext a
  exact Fin.ext (win0_10.rect_emb_val_of_index_zero t a ((idx t).2.2.2.2.2.2.2.2.2.2 a) j)

/-- The attention array as the region finds it: heads side by side, the first 12240 tokens. -/
theorem host_at (x : S2x5x12288x128.Idx → EReal) (b : Fin 2) (r : Fin 12240) (k : Fin 640) :
    extractStridedSlice S2x12240x640 ![0, 0, 0] (shapeCast S2x12288x640
      (transpose S2x12288x5x128 [0, 2, 1, 3] x transposes_S2x5x12288x128_S2x12288x5x128_0_2_1_3) shapeCasts_S2x12288x5x128_S2x12288x640)
      slices_S2x12288x640_S2x12240x640_0_0_0 (ix3 b r k) = arowA x b r k := by
  unfold arowA
  pointwise []

theorem V_main_v2 (c : Dev nD) : (V m c main_v2 : S2x12240x640.Idx → EReal)
    = extractStridedSlice S2x12240x640 ![0, 0, 0] (shapeCast S2x12288x640
      (transpose S2x12288x5x128 [0, 2, 1, 3] (m ((c.tc : Thread nD τ).loc main_arg0) : S2x5x12288x128.Idx → EReal) transposes_S2x5x12288x128_S2x12288x5x128_0_2_1_3) shapeCasts_S2x12288x5x128_S2x12288x640)
      slices_S2x12288x640_S2x12240x640_0_0_0 := rfl

/-! ## What the body loads -/

section
variable (c : Dev nD) (t : Fin cfg0.N)

theorem ldA (b : Fin 2) (r : Fin 12240) (k : Fin 640) :
    View.ld (Val := Elt Ideal) (e' := .f32) (iblk m c 0 t : Vec Ideal S2x12240x640 .f32) r0_0 (ix3 b r k) = arowA (m ((c.tc : Thread nD τ).loc main_arg0)) b r k := by
  exact (congrFun ((View.ld_unit_zero (by funext a; fin_cases a <;> rfl) _ _).trans ((iblk0 m c t).trans (V_main_v2 m c))) (ix3 b r k)).trans (host_at _ b r k)

theorem ldX (b : Fin 2) (r : Fin 12240) (k : Fin 2560) :
    View.ld (Val := Elt Ideal) (e' := .bf16) (iblk m c 1 t : Vec Ideal S2x12240x2560 .bf16) r0_1 (ix3 b r k) = xrowA (m ((c.tc : Thread nD τ).loc main_arg1)) b r k := by
  exact congrFun ((View.ld_unit_zero (by funext a; fin_cases a <;> rfl) _ _).trans (iblk1 m c t)) (ix3 b r k)

theorem ldG1 (b : Fin 2) (k : Fin 2560) :
    View.ld (Val := Elt Ideal) (e' := .f32) (iblk m c 2 t : Vec Ideal S2x6x2560 .f32) r0_2 (ix3 b 0 k) = m ((c.tc : Thread nD τ).loc main_arg2) (ix3 b 2 k) := by
  rw [iblk2]
  show (m ((c.tc : Thread nD τ).loc main_arg2) : S2x6x2560.Idx → EReal) (r0_2.emb (ix3 b 0 k)) = _
  congr 1
  funext a
  apply Fin.ext
  rw [Rect.emb_apply]
  match a with
  | ⟨0, _⟩ => show 0 + 1 * b.val = b.val; omega
  | ⟨1, _⟩ => rfl
  | ⟨2, _⟩ => show 0 + 1 * k.val = k.val; omega

theorem ldSh (b : Fin 2) (k : Fin 2560) :
    View.ld (Val := Elt Ideal) (e' := .f32) (iblk m c 2 t : Vec Ideal S2x6x2560 .f32) r0_5 (ix3 b 0 k) = m ((c.tc : Thread nD τ).loc main_arg2) (ix3 b 3 k) := by
  rw [iblk2]
  show (m ((c.tc : Thread nD τ).loc main_arg2) : S2x6x2560.Idx → EReal) (r0_5.emb (ix3 b 0 k)) = _
  congr 1
  funext a
  apply Fin.ext
  rw [Rect.emb_apply]
  match a with
  | ⟨0, _⟩ => show 0 + 1 * b.val = b.val; omega
  | ⟨1, _⟩ => rfl
  | ⟨2, _⟩ => show 0 + 1 * k.val = k.val; omega

theorem ldSc (b : Fin 2) (k : Fin 2560) :
    View.ld (Val := Elt Ideal) (e' := .f32) (iblk m c 2 t : Vec Ideal S2x6x2560 .f32) r0_6 (ix3 b 0 k) = m ((c.tc : Thread nD τ).loc main_arg2) (ix3 b 4 k) := by
  rw [iblk2]
  show (m ((c.tc : Thread nD τ).loc main_arg2) : S2x6x2560.Idx → EReal) (r0_6.emb (ix3 b 0 k)) = _
  congr 1
  funext a
  apply Fin.ext
  rw [Rect.emb_apply]
  match a with
  | ⟨0, _⟩ => show 0 + 1 * b.val = b.val; omega
  | ⟨1, _⟩ => rfl
  | ⟨2, _⟩ => show 0 + 1 * k.val = k.val; omega

theorem ldG2 (b : Fin 2) (k : Fin 2560) :
    View.ld (Val := Elt Ideal) (e' := .f32) (iblk m c 2 t : Vec Ideal S2x6x2560 .f32) r0_9 (ix3 b 0 k) = m ((c.tc : Thread nD τ).loc main_arg2) (ix3 b 5 k) := by
  rw [iblk2]
  show (m ((c.tc : Thread nD τ).loc main_arg2) : S2x6x2560.Idx → EReal) (r0_9.emb (ix3 b 0 k)) = _
  congr 1
  funext a
  apply Fin.ext
  rw [Rect.emb_apply]
  match a with
  | ⟨0, _⟩ => show 0 + 1 * b.val = b.val; omega
  | ⟨1, _⟩ => rfl
  | ⟨2, _⟩ => show 0 + 1 * k.val = k.val; omega

theorem ld3 : View.ld (Val := Elt Ideal) (e' := .fp8e4m3) (iblk m c 3 t : Vec Ideal S640x2560 .fp8e4m3) r0_3 = m ((c.tc : Thread nD τ).loc main_arg3) := by
  exact (View.ld_unit_zero (by funext a; fin_cases a <;> rfl) _ _).trans (iblk3 m c t)

theorem ld4 : View.ld (Val := Elt Ideal) (e' := .f32) (iblk m c 4 t : Vec Ideal S2560 .f32) r0_4 = m ((c.tc : Thread nD τ).loc main_arg4) := by
  exact (View.ld_unit_zero (by funext a; fin_cases a; rfl) _ _).trans (iblk4 m c t)

theorem ld5 : View.ld (Val := Elt Ideal) (e' := .fp8e4m3) (iblk m c 5 t : Vec Ideal S2560x1728 .fp8e4m3) r0_7 = m ((c.tc : Thread nD τ).loc main_arg5) := by
  exact (View.ld_unit_zero (by funext a; fin_cases a <;> rfl) _ _).trans (iblk5 m c t)

theorem ld6 : View.ld (Val := Elt Ideal) (e' := .f32) (iblk m c 6 t : Vec Ideal S1728 .f32) r0_8 = m ((c.tc : Thread nD τ).loc main_arg6) := by
  exact (View.ld_unit_zero (by funext a; fin_cases a; rfl) _ _).trans (iblk6 m c t)

theorem ld7 : View.ld (Val := Elt Ideal) (e' := .fp8e4m3) (iblk m c 7 t : Vec Ideal S2560x1728 .fp8e4m3) r0_7 = m ((c.tc : Thread nD τ).loc main_arg7) := by
  exact (View.ld_unit_zero (by funext a; fin_cases a <;> rfl) _ _).trans (iblk7 m c t)

theorem ld8 : View.ld (Val := Elt Ideal) (e' := .f32) (iblk m c 8 t : Vec Ideal S1728 .f32) r0_8 = m ((c.tc : Thread nD τ).loc main_arg8) := by
  exact (View.ld_unit_zero (by funext a; fin_cases a; rfl) _ _).trans (iblk8 m c t)

theorem ld9 : View.ld (Val := Elt Ideal) (e' := .fp8e4m3) (iblk m c 9 t : Vec Ideal S1728x2560 .fp8e4m3) r0_10 = m ((c.tc : Thread nD τ).loc main_arg9) := by
  exact (View.ld_unit_zero (by funext a; fin_cases a <;> rfl) _ _).trans (iblk9 m c t)

theorem ld10 : View.ld (Val := Elt Ideal) (e' := .f32) (iblk m c 10 t : Vec Ideal S2560 .f32) r0_4 = m ((c.tc : Thread nD τ).loc main_arg10) := by
  exact (View.ld_unit_zero (by funext a; fin_cases a; rfl) _ _).trans (iblk10 m c t)

end

end Cert.ReferenceIdeal.Tail

end
-- ==== Proof.RefValue.lean ====
/- The reference's result arrays after a run, at an index: the row functions of the argument arrays. -/
module

public import proofs.«01_k».proof.Proof.Gen.ReferenceIdeal.Frame
public import proofs.«01_k».proof.Proof.Arrays
public import proofs.«01_k».proof.Proof.RefRows
public import proofs.«01_k».proof.Proof.RefLoads
public import Idealize.ShloMosaic.Lib.Pipeline.ValueKit

@[expose] public section

set_option maxRecDepth 16384

noncomputable section

namespace Cert.ReferenceIdeal.Tail

open Cert.ReferenceIdeal.Gen Cert.Tail
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The parameters of the argument arrays. -/
def parM (c : Dev nD) : Fin 2 → Par :=
  parA (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))

/-! ## What the body computes from them -/

section
variable (c : Dev nD) (t : Fin cfg0.N) (b : Fin 2) (r : Fin 12240)

theorem y_at (k : Fin 2560) : k0_pay20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 b r k) = rowY (parM m c b) (arowA (m ((c.tc : Thread nD τ).loc main_arg0)) b r) (xrowA (m ((c.tc : Thread nD τ).loc main_arg1)) b r) k := by
  exact pay8_at b r _ (arowA (m ((c.tc : Thread nD τ).loc main_arg0)) b r) (ldA m c t b r) _ _ _ _ (parM m c b) (xrowA (m ((c.tc : Thread nD τ).loc main_arg1)) b r) (ldX m c t b r) (ldG1 m c t b) (fun k c' => congrFun (ld3 m c t) (ix2 k c')) (fun c' => congrFun (ld4 m c t) (ix1 c')) k

theorem yy_at (k : Fin 2560) : k0_pay21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 b r k) = (rowY (parM m c b) (arowA (m ((c.tc : Thread nD τ).loc main_arg0)) b r) (xrowA (m ((c.tc : Thread nD τ).loc main_arg1)) b r) k * rowY (parM m c b) (arowA (m ((c.tc : Thread nD τ).loc main_arg0)) b r) (xrowA (m ((c.tc : Thread nD τ).loc main_arg1)) b r) k : EReal) := by
  rw [← y_at m c t b r k]
  rfl

theorem ns_at : k0_pay22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 b r 0) = rowScale (rowN (parM m c b) (arowA (m ((c.tc : Thread nD τ).loc main_arg0)) b r) (xrowA (m ((c.tc : Thread nD τ).loc main_arg1)) b r)) := by
  exact pay11_at b r _ _ _ _ (rowY (parM m c b) (arowA (m ((c.tc : Thread nD τ).loc main_arg0)) b r) (xrowA (m ((c.tc : Thread nD τ).loc main_arg1)) b r)) _ _ (y_at m c t b r) (yy_at m c t b r) (ldSh m c t b) (ldSc m c t b)

theorem g_at (j : Fin 1728) : k0_pay23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 b r j) = rowDot (rowN (parM m c b) (arowA (m ((c.tc : Thread nD τ).loc main_arg0)) b r) (xrowA (m ((c.tc : Thread nD τ).loc main_arg1)) b r)) ((parM m c b).w1 j) ((parM m c b).s1 j) := by
  exact pay13_at b r _ _ _ _ (rowY (parM m c b) (arowA (m ((c.tc : Thread nD τ).loc main_arg0)) b r) (xrowA (m ((c.tc : Thread nD τ).loc main_arg1)) b r)) _ _ (y_at m c t b r) (yy_at m c t b r) (ldSh m c t b) (ldSc m c t b) _ _ _ _ (fun k j => congrFun (ld5 m c t) (ix2 k j)) (fun j => congrFun (ld6 m c t) (ix1 j)) j

theorem u_at (j : Fin 1728) : k0_pay24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 b r j) = (∑ k, rowCodes (rowN (parM m c b) (arowA (m ((c.tc : Thread nD τ).loc main_arg0)) b r) (xrowA (m ((c.tc : Thread nD τ).loc main_arg1)) b r)) k * (parM m c b).w3 j k : EReal) := by
  exact pay14_at b r _ _ _ _ (rowY (parM m c b) (arowA (m ((c.tc : Thread nD τ).loc main_arg0)) b r) (xrowA (m ((c.tc : Thread nD τ).loc main_arg1)) b r)) _ _ (y_at m c t b r) (yy_at m c t b r) (ldSh m c t b) (ldSc m c t b) _ _ (fun k j => congrFun (ld7 m c t) (ix2 k j)) j

end

/-! ## The results -/

theorem sq19_at (b : Fin 2) (r : Fin 12240) (v : FVec Ideal S2x12240x1 .f32) : k0_pay19 (F := Ideal) v (ix2 b r) = v (ix3 b r 0) := by
  pointwise [k0_pay19]

theorem sq1_at (b : Fin 2) (r : Fin 12240) (v : FVec Ideal S2x12240x1 .f32) : k0_pay1 (F := Ideal) v (ix2 b r) = v (ix3 b r 0) := by
  pointwise [k0_pay1]

theorem sq3_at (b : Fin 2) (r : Fin 12240) (v : FVec Ideal S2x12240x1 .f32) : k0_pay3 (F := Ideal) v (ix2 b r) = v (ix3 b r 0) := by
  pointwise [k0_pay3]

theorem tr_at (b : Fin 2) (r : Fin 12240) (v : FVec Ideal S2x12240x1728 .fp8e4m3) (k : Fin 1728) :
    k0_pay2 (F := Ideal) v (ix3 b k r) = v (ix3 b r k) := by
  pointwise [k0_pay2]

/-- Result 1 at an index. -/
def G11 (c : Dev nD) : Arr 3 ![2, 12240, 2560] := fun j => rowO (parM m c (j 0)) (arowA (m ((c.tc : Thread nD τ).loc main_arg0)) (j 0) (j 1)) (xrowA (m ((c.tc : Thread nD τ).loc main_arg1)) (j 0) (j 1)) (j 2)

theorem out11 (c : Dev nD) (t : Fin cfg0.N) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) = G11 m c := by
  unfold out0_11
  refine (View.canon_unit_zero (by funext a; fin_cases a <;> rfl) _ _).trans ?_
  funext j
  obtain ⟨e⟩ : Nonempty (j = (ix3 (j 0) (j 1) (j 2) : (⟨3, ![2, 12240, 2560]⟩ : Shape).Idx)) := ⟨(by funext a; match a with | ⟨0, _⟩ => rfl | ⟨1, _⟩ => rfl | ⟨2, _⟩ => rfl)⟩
  refine (congrArg _ e).trans ?_
  exact pay18_at (j 0) (j 1) _ _ _ _ (parM m c (j 0)) (arowA (m ((c.tc : Thread nD τ).loc main_arg0)) (j 0) (j 1)) (xrowA (m ((c.tc : Thread nD τ).loc main_arg1)) (j 0) (j 1)) (ns_at m c t (j 0) (j 1)) (g_at m c t (j 0) (j 1)) (fun k => congrFun (ld8 m c t) (ix1 k)) (u_at m c t (j 0) (j 1)) _ _ _ _ (y_at m c t (j 0) (j 1)) (ldG2 m c t (j 0)) (fun k c' => congrFun (ld9 m c t) (ix2 k c')) (fun c' => congrFun (ld10 m c t) (ix1 c')) (j 2)

theorem arr11 (c : Dev nD) : (dats m 0 c).arrAt 11 (cfgs 0).N = G11 m c := by
  refine (dats m 0 c).arrAt_eq_of_after_last 11 ⟨0, by decide⟩ (by decide +kernel) _ fun j => ?_
  rw [after0_11, out11]
  rfl

/-- Result 2 at an index. -/
def G12 (c : Dev nD) : Arr 3 ![2, 12240, 640] := fun j => rowCodes (arowA (m ((c.tc : Thread nD τ).loc main_arg0)) (j 0) (j 1)) (j 2)

theorem out12 (c : Dev nD) (t : Fin cfg0.N) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) = G12 m c := by
  unfold out0_12
  refine (View.canon_unit_zero (by funext a; fin_cases a <;> rfl) _ _).trans ?_
  funext j
  obtain ⟨e⟩ : Nonempty (j = (ix3 (j 0) (j 1) (j 2) : (⟨3, ![2, 12240, 640]⟩ : Shape).Idx)) := ⟨(by funext a; match a with | ⟨0, _⟩ => rfl | ⟨1, _⟩ => rfl | ⟨2, _⟩ => rfl)⟩
  refine (congrArg _ e).trans ?_
  exact pay7_at (j 0) (j 1) _ _ (ldA m c t (j 0) (j 1)) (j 2)

theorem arr12 (c : Dev nD) : (dats m 0 c).arrAt 12 (cfgs 0).N = G12 m c := by
  refine (dats m 0 c).arrAt_eq_of_after_last 12 ⟨0, by decide⟩ (by decide +kernel) _ fun j => ?_
  rw [after0_12, out12]
  rfl

/-- Result 3 at an index. -/
def G13 (c : Dev nD) : Arr 2 ![2, 12240] := fun j => rowScale (arowA (m ((c.tc : Thread nD τ).loc main_arg0)) (j 0) (j 1))

theorem out13 (c : Dev nD) (t : Fin cfg0.N) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) = G13 m c := by
  unfold out0_13
  refine (View.canon_unit_zero (by funext a; fin_cases a <;> rfl) _ _).trans ?_
  funext j
  obtain ⟨e⟩ : Nonempty (j = (ix2 (j 0) (j 1) : (⟨2, ![2, 12240]⟩ : Shape).Idx)) := ⟨(by funext a; match a with | ⟨0, _⟩ => rfl | ⟨1, _⟩ => rfl)⟩
  refine (congrArg _ e).trans ?_
  exact (sq19_at (j 0) (j 1) _).trans (pay6_at (j 0) (j 1) _ _ (ldA m c t (j 0) (j 1)))

theorem arr13 (c : Dev nD) : (dats m 0 c).arrAt 13 (cfgs 0).N = G13 m c := by
  refine (dats m 0 c).arrAt_eq_of_after_last 13 ⟨0, by decide⟩ (by decide +kernel) _ fun j => ?_
  rw [after0_13, out13]
  rfl

/-- Result 4 at an index. -/
def G14 (c : Dev nD) : Arr 3 ![2, 12240, 2560] := fun j => rowCodes (rowN (parM m c (j 0)) (arowA (m ((c.tc : Thread nD τ).loc main_arg0)) (j 0) (j 1)) (xrowA (m ((c.tc : Thread nD τ).loc main_arg1)) (j 0) (j 1))) (j 2)

theorem out14 (c : Dev nD) (t : Fin cfg0.N) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) = G14 m c := by
  unfold out0_14
  refine (View.canon_unit_zero (by funext a; fin_cases a <;> rfl) _ _).trans ?_
  funext j
  obtain ⟨e⟩ : Nonempty (j = (ix3 (j 0) (j 1) (j 2) : (⟨3, ![2, 12240, 2560]⟩ : Shape).Idx)) := ⟨(by funext a; match a with | ⟨0, _⟩ => rfl | ⟨1, _⟩ => rfl | ⟨2, _⟩ => rfl)⟩
  refine (congrArg _ e).trans ?_
  exact pay12_at (j 0) (j 1) _ _ _ _ (rowY (parM m c (j 0)) (arowA (m ((c.tc : Thread nD τ).loc main_arg0)) (j 0) (j 1)) (xrowA (m ((c.tc : Thread nD τ).loc main_arg1)) (j 0) (j 1))) _ _ (y_at m c t (j 0) (j 1)) (yy_at m c t (j 0) (j 1)) (ldSh m c t (j 0)) (ldSc m c t (j 0)) (j 2)

theorem arr14 (c : Dev nD) : (dats m 0 c).arrAt 14 (cfgs 0).N = G14 m c := by
  refine (dats m 0 c).arrAt_eq_of_after_last 14 ⟨0, by decide⟩ (by decide +kernel) _ fun j => ?_
  rw [after0_14, out14]
  rfl

/-- Result 5 at an index. -/
def G15 (c : Dev nD) : Arr 2 ![2, 12240] := fun j => rowScale (rowN (parM m c (j 0)) (arowA (m ((c.tc : Thread nD τ).loc main_arg0)) (j 0) (j 1)) (xrowA (m ((c.tc : Thread nD τ).loc main_arg1)) (j 0) (j 1)))

theorem out15 (c : Dev nD) (t : Fin cfg0.N) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) = G15 m c := by
  unfold out0_15
  refine (View.canon_unit_zero (by funext a; fin_cases a <;> rfl) _ _).trans ?_
  funext j
  obtain ⟨e⟩ : Nonempty (j = (ix2 (j 0) (j 1) : (⟨2, ![2, 12240]⟩ : Shape).Idx)) := ⟨(by funext a; match a with | ⟨0, _⟩ => rfl | ⟨1, _⟩ => rfl)⟩
  refine (congrArg _ e).trans ?_
  exact (sq1_at (j 0) (j 1) _).trans (ns_at m c t (j 0) (j 1))

theorem arr15 (c : Dev nD) : (dats m 0 c).arrAt 15 (cfgs 0).N = G15 m c := by
  refine (dats m 0 c).arrAt_eq_of_after_last 15 ⟨0, by decide⟩ (by decide +kernel) _ fun j => ?_
  rw [after0_15, out15]
  rfl

/-- Result 6 at an index. -/
def G16 (c : Dev nD) : Arr 3 ![2, 1728, 12240] := fun j => rowCodes (rowH (parM m c (j 0)) (arowA (m ((c.tc : Thread nD τ).loc main_arg0)) (j 0) (j 2)) (xrowA (m ((c.tc : Thread nD τ).loc main_arg1)) (j 0) (j 2))) (j 1)

theorem out16 (c : Dev nD) (t : Fin cfg0.N) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) = G16 m c := by
  unfold out0_16
  refine (View.canon_unit_zero (by funext a; fin_cases a <;> rfl) _ _).trans ?_
  funext j
  obtain ⟨e⟩ : Nonempty (j = (ix3 (j 0) (j 1) (j 2) : (⟨3, ![2, 1728, 12240]⟩ : Shape).Idx)) := ⟨(by funext a; match a with | ⟨0, _⟩ => rfl | ⟨1, _⟩ => rfl | ⟨2, _⟩ => rfl)⟩
  refine (congrArg _ e).trans ?_
  exact (tr_at (j 0) (j 2) _ (j 1)).trans (pay17_at (j 0) (j 2) _ _ _ _ (parM m c (j 0)) (arowA (m ((c.tc : Thread nD τ).loc main_arg0)) (j 0) (j 2)) (xrowA (m ((c.tc : Thread nD τ).loc main_arg1)) (j 0) (j 2)) (ns_at m c t (j 0) (j 2)) (g_at m c t (j 0) (j 2)) (fun k => congrFun (ld8 m c t) (ix1 k)) (u_at m c t (j 0) (j 2)) (j 1))

theorem arr16 (c : Dev nD) : (dats m 0 c).arrAt 16 (cfgs 0).N = G16 m c := by
  refine (dats m 0 c).arrAt_eq_of_after_last 16 ⟨0, by decide⟩ (by decide +kernel) _ fun j => ?_
  rw [after0_16, out16]
  rfl

/-- Result 7 at an index. -/
def G17 (c : Dev nD) : Arr 2 ![2, 12240] := fun j => rowScale (rowH (parM m c (j 0)) (arowA (m ((c.tc : Thread nD τ).loc main_arg0)) (j 0) (j 1)) (xrowA (m ((c.tc : Thread nD τ).loc main_arg1)) (j 0) (j 1)))

theorem out17 (c : Dev nD) (t : Fin cfg0.N) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) = G17 m c := by
  unfold out0_17
  refine (View.canon_unit_zero (by funext a; fin_cases a <;> rfl) _ _).trans ?_
  funext j
  obtain ⟨e⟩ : Nonempty (j = (ix2 (j 0) (j 1) : (⟨2, ![2, 12240]⟩ : Shape).Idx)) := ⟨(by funext a; match a with | ⟨0, _⟩ => rfl | ⟨1, _⟩ => rfl)⟩
  refine (congrArg _ e).trans ?_
  exact (sq3_at (j 0) (j 1) _).trans (pay16_at (j 0) (j 1) _ _ _ _ (parM m c (j 0)) (arowA (m ((c.tc : Thread nD τ).loc main_arg0)) (j 0) (j 1)) (xrowA (m ((c.tc : Thread nD τ).loc main_arg1)) (j 0) (j 1)) (ns_at m c t (j 0) (j 1)) (g_at m c t (j 0) (j 1)) (fun k => congrFun (ld8 m c t) (ix1 k)) (u_at m c t (j 0) (j 1)))

theorem arr17 (c : Dev nD) : (dats m 0 c).arrAt 17 (cfgs 0).N = G17 m c := by
  refine (dats m 0 c).arrAt_eq_of_after_last 17 ⟨0, by decide⟩ (by decide +kernel) _ fun j => ?_
  rw [after0_17, out17]
  rfl

/-- Result 8 at an index. -/
def G18 (c : Dev nD) : Arr 3 ![2, 12240, 640] := fun j => (arowA (m ((c.tc : Thread nD τ).loc main_arg0)) (j 0) (j 1)) (j 2)

theorem out18 (c : Dev nD) (t : Fin cfg0.N) : out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) = G18 m c := by
  unfold out0_18
  refine (View.canon_unit_zero (by funext a; fin_cases a <;> rfl) _ _).trans ?_
  funext j
  obtain ⟨e⟩ : Nonempty (j = (ix3 (j 0) (j 1) (j 2) : (⟨3, ![2, 12240, 640]⟩ : Shape).Idx)) := ⟨(by funext a; match a with | ⟨0, _⟩ => rfl | ⟨1, _⟩ => rfl | ⟨2, _⟩ => rfl)⟩
  refine (congrArg _ e).trans ?_
  exact pay5_at (j 0) (j 1) _ _ (ldA m c t (j 0) (j 1)) (j 2)

theorem arr18 (c : Dev nD) : (dats m 0 c).arrAt 18 (cfgs 0).N = G18 m c := by
  refine (dats m 0 c).arrAt_eq_of_after_last 18 ⟨0, by decide⟩ (by decide +kernel) _ fun j => ?_
  rw [after0_18, out18]
  rfl

end Cert.ReferenceIdeal.Tail

end
-- ==== Proof.lean ====
/- The claims about the MLP call: it runs and ends quiescent at bits and at the ideal instance, the reference does too, and both
   leave the same eight result arrays. -/
module

public import proofs.«01_k».proof.Defs
public import proofs.«01_k».proof.Proof.KernelFrame
public import proofs.«01_k».proof.Proof.IdealFrame
public import proofs.«01_k».proof.Proof.IdealValue
public import proofs.«01_k».proof.Proof.RefValue
public import Idealize.ShloMosaic.Adequacy
public import Idealize.ShloMosaic.Init

@[expose] public section

noncomputable section

namespace Cert.KernelIdeal.Tail

open Cert.KernelIdeal.Gen
open Idealize.ShloMosaic Idealize.ShloMosaic.TcCoe Idealize.SL.Sem

variable (m : (ℓ : Loc nD τ sig) → Buf (Elt Ideal) ℓ) (ρ : Dev nD → PrngReg)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_of m ρ (dats m) (A_eq m) ((θ_run defs _ _).mono (fun _ h => h.1) (run_main_quiescent m ρ))

/-- The argument arrays end unchanged and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

/-- The run with what it leaves in the result arrays. -/
theorem results : θ_run defs (onTc (τ := τ) (main (F := Ideal))) ⟨m, fun _ => 0, ρ⟩ (fun r => ∀ c : Dev nD,
      r.2.mem ((c.tc : Thread nD τ).loc main_v7_0) = G11 m c
      ∧ r.2.mem ((c.tc : Thread nD τ).loc main_v7_1) = G12 m c
      ∧ r.2.mem ((c.tc : Thread nD τ).loc main_v7_2) = G13 m c
      ∧ r.2.mem ((c.tc : Thread nD τ).loc main_v7_3) = G14 m c
      ∧ r.2.mem ((c.tc : Thread nD τ).loc main_v7_4) = G15 m c
      ∧ r.2.mem ((c.tc : Thread nD τ).loc main_v7_5) = G16 m c
      ∧ r.2.mem ((c.tc : Thread nD τ).loc main_v7_6) = G17 m c
      ∧ r.2.mem ((c.tc : Thread nD τ).loc main_v7_7) = G18 m c) :=
  (θ_run defs _ _).mono (fun r h c => ⟨((h.1 c).1 11).trans (arr11 m c), ((h.1 c).1 12).trans (arr12 m c), ((h.1 c).1 13).trans (arr13 m c), ((h.1 c).1 14).trans (arr14 m c), ((h.1 c).1 15).trans (arr15 m c), ((h.1 c).1 16).trans (arr16 m c), ((h.1 c).1 17).trans (arr17 m c), ((h.1 c).1 18).trans (arr18 m c)⟩)
    (run_main_quiescent m ρ)

end Cert.KernelIdeal.Tail

namespace Cert.ReferenceIdeal.Tail

open Cert.ReferenceIdeal.Gen
open Idealize.ShloMosaic Idealize.ShloMosaic.TcCoe Idealize.SL.Sem

variable (m : (ℓ : Loc nD τ sig) → Buf (Elt Ideal) ℓ) (ρ : Dev nD → PrngReg)

/-- The run with what it leaves in the result arrays. -/
theorem results : θ_run defs (onTc (τ := τ) (main (F := Ideal))) ⟨m, fun _ => 0, ρ⟩ (fun r => ∀ c : Dev nD,
      r.2.mem ((c.tc : Thread nD τ).loc main_v3_0) = G11 m c
      ∧ r.2.mem ((c.tc : Thread nD τ).loc main_v3_1) = G12 m c
      ∧ r.2.mem ((c.tc : Thread nD τ).loc main_v3_2) = G13 m c
      ∧ r.2.mem ((c.tc : Thread nD τ).loc main_v3_3) = G14 m c
      ∧ r.2.mem ((c.tc : Thread nD τ).loc main_v3_4) = G15 m c
      ∧ r.2.mem ((c.tc : Thread nD τ).loc main_v3_5) = G16 m c
      ∧ r.2.mem ((c.tc : Thread nD τ).loc main_v3_6) = G17 m c
      ∧ r.2.mem ((c.tc : Thread nD τ).loc main_v3_7) = G18 m c) :=
  (θ_run defs _ _).mono (fun r h c => ⟨((h c).1 11).trans (arr11 m c), ((h c).1 12).trans (arr12 m c), ((h c).1 13).trans (arr13 m c), ((h c).1 14).trans (arr14 m c), ((h c).1 15).trans (arr15 m c), ((h c).1 16).trans (arr16 m c), ((h c).1 17).trans (arr17 m c), ((h c).1 18).trans (arr18 m c)⟩)
    (run_main m ρ)

end Cert.ReferenceIdeal.Tail

namespace Cert.Proof

open Idealize.ShloMosaic Idealize.SL.Sem

/-! ## The two sides' arrays agree -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments at a device. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

variable {m m' c}

theorem par_eq (h : Agree m m' c) : Cert.ReferenceIdeal.Tail.parM m' c = Cert.KernelIdeal.Tail.parM m c := by
  obtain ⟨-, -, h2, h3, h4, h5, h6, h7, h8, h9, h10⟩ := h
  unfold Cert.ReferenceIdeal.Tail.parM Cert.KernelIdeal.Tail.parM
  rw [h2, h3, h4, h5, h6, h7, h8, h9, h10]

theorem eq11 (h : Agree m m' c) : Cert.ReferenceIdeal.Tail.G11 m' c = Cert.KernelIdeal.Tail.G11 m c := by
  unfold Cert.ReferenceIdeal.Tail.G11 Cert.KernelIdeal.Tail.G11
  rw [par_eq h, h.1, h.2.1]

theorem eq12 (h : Agree m m' c) : Cert.ReferenceIdeal.Tail.G12 m' c = Cert.KernelIdeal.Tail.G12 m c := by
  unfold Cert.ReferenceIdeal.Tail.G12 Cert.KernelIdeal.Tail.G12
  rw [h.1]

theorem eq13 (h : Agree m m' c) : Cert.ReferenceIdeal.Tail.G13 m' c = Cert.KernelIdeal.Tail.G13 m c := by
  unfold Cert.ReferenceIdeal.Tail.G13 Cert.KernelIdeal.Tail.G13
  rw [h.1]

theorem eq14 (h : Agree m m' c) : Cert.ReferenceIdeal.Tail.G14 m' c = Cert.KernelIdeal.Tail.G14 m c := by
  unfold Cert.ReferenceIdeal.Tail.G14 Cert.KernelIdeal.Tail.G14
  rw [par_eq h, h.1, h.2.1]

theorem eq15 (h : Agree m m' c) : Cert.ReferenceIdeal.Tail.G15 m' c = Cert.KernelIdeal.Tail.G15 m c := by
  unfold Cert.ReferenceIdeal.Tail.G15 Cert.KernelIdeal.Tail.G15
  rw [par_eq h, h.1, h.2.1]

theorem eq16 (h : Agree m m' c) : Cert.ReferenceIdeal.Tail.G16 m' c = Cert.KernelIdeal.Tail.G16 m c := by
  unfold Cert.ReferenceIdeal.Tail.G16 Cert.KernelIdeal.Tail.G16
  rw [par_eq h, h.1, h.2.1]

theorem eq17 (h : Agree m m' c) : Cert.ReferenceIdeal.Tail.G17 m' c = Cert.KernelIdeal.Tail.G17 m c := by
  unfold Cert.ReferenceIdeal.Tail.G17 Cert.KernelIdeal.Tail.G17
  rw [par_eq h, h.1, h.2.1]

theorem eq18 (h : Agree m m' c) : Cert.ReferenceIdeal.Tail.G18 m' c = Cert.KernelIdeal.Tail.G18 m c := by
  unfold Cert.ReferenceIdeal.Tail.G18 Cert.KernelIdeal.Tail.G18
  rw [h.1]

end

theorem algebraic : Cert.algebraic_KernelIdeal_ReferenceIdeal (hKernelIdeal := Cert.KernelIdeal.Gen.facts)
    (hReferenceIdeal := Cert.ReferenceIdeal.Gen.facts) := fun m g m' g' _ hm =>
  ⟨Cert.KernelIdeal.Tail.G11 m, Cert.KernelIdeal.Tail.G12 m, Cert.KernelIdeal.Tail.G13 m, Cert.KernelIdeal.Tail.G14 m, Cert.KernelIdeal.Tail.G15 m, Cert.KernelIdeal.Tail.G16 m, Cert.KernelIdeal.Tail.G17 m, Cert.KernelIdeal.Tail.G18 m,
    (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2, h.2 c⟩) (θ_run_and (Cert.KernelIdeal.Tail.results m g) (Cert.KernelIdeal.Tail.unchanged m g)),
    (θ_run _ _ _).mono (fun r h c => ⟨((h.1 c).1).trans (eq11 (hm c)), ((h.1 c).2.1).trans (eq12 (hm c)), ((h.1 c).2.2.1).trans (eq13 (hm c)), ((h.1 c).2.2.2.1).trans (eq14 (hm c)), ((h.1 c).2.2.2.2.1).trans (eq15 (hm c)), ((h.1 c).2.2.2.2.2.1).trans (eq16 (hm c)), ((h.1 c).2.2.2.2.2.2.1).trans (eq17 (hm c)), ((h.1 c).2.2.2.2.2.2.2).trans (eq18 (hm c)), h.2 c⟩) (θ_run_and (Cert.ReferenceIdeal.Tail.results m' g') (Cert.ReferenceIdeal.Gen.unchanged m' g'))⟩

theorem claim : Cert.Claim := ⟨Cert.Kernel.Gen.facts, Cert.KernelIdeal.Gen.facts, Cert.ReferenceIdeal.Gen.facts,
  fun m g _ => Cert.Kernel.Tail.frame m g, fun m g _ => Cert.KernelIdeal.Tail.frame m g,
  fun m g _ => Cert.ReferenceIdeal.Gen.frame m g, trivial, algebraic⟩

end Cert.Proof

end
